-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x4096x1280 : Shape := ⟨3, ![8, 4096, 1280]⟩
abbrev S4544x1280 : Shape := ⟨2, ![4544, 1280]⟩
abbrev S9088x40 : Shape := ⟨2, ![9088, 40]⟩
abbrev S_ : Shape := ⟨0, ![]⟩

class Facts : Prop where
  bcast_S_S8x4096x1280 : S_.BroadcastsInDim S8x4096x1280 (![] : Fin 0 → Fin S8x4096x1280.rank)
  reducesTo_S8x4096x1280_S_d0_1_2 : S8x4096x1280.ReducesTo [0, 1, 2] S_
  h_S_ : 0 < S_.numel
  bcast_S_S9088x40 : S_.BroadcastsInDim S9088x40 (![] : Fin 0 → Fin S9088x40.rank)
  reducesTo_S9088x40_S_d0_1 : S9088x40.ReducesTo [0, 1] S_

variable [Facts]

def fn {F : FTy → Type} [FloatOps F] (main_arg0 : FVec F S8x4096x1280 .bf16) (main_arg1 : IVec S4544x1280 8) (main_arg2 : IVec S9088x40 8) : IVec S_ 1 :=
  let main_v0 : FVec F S8x4096x1280 .bf16 := Host.absf main_arg0
  let main_cst : FVec F S_ .bf16 := constant S_ .bf16 0x7F7F#16
  let main_v1 : FVec F S8x4096x1280 .bf16 := broadcastInDim S8x4096x1280 ![] bcast_S_S8x4096x1280 main_cst
  let main_v2 : IVec S8x4096x1280 1 := cmpf .ole main_v0 main_v1
  let main_c : IVec S_ 1 := constantI S_ 1 1#1
  let main_v3 : IVec S_ 1 := (fun x v => Host.reduce IntOp.andi x v reducesTo_S8x4096x1280_S_d0_1_2 h_S_) main_v2 main_c
  let main_c_0 : IVec S_ 8 := constantI S_ 8 1#8
  let main_v4 : IVec S9088x40 8 := broadcastInDim S9088x40 ![] bcast_S_S9088x40 main_c_0
  let main_v5 : IVec S9088x40 1 := cmpi .uge main_arg2 main_v4
  let main_c_1 : IVec S_ 8 := constantI S_ 8 254#8
  let main_v6 : IVec S9088x40 8 := broadcastInDim S9088x40 ![] bcast_S_S9088x40 main_c_1
  let main_v7 : IVec S9088x40 1 := cmpi .ule main_arg2 main_v6
  let main_v8 : IVec S9088x40 1 := andi main_v5 main_v7
  let main_c_2 : IVec S_ 1 := constantI S_ 1 1#1
  let main_v9 : IVec S_ 1 := (fun x v => Host.reduce IntOp.andi x v reducesTo_S9088x40_S_d0_1 h_S_) main_v8 main_c_2
  let main_v10 : IVec S_ 1 := andi main_v3 main_v9
  main_v10
-- ==== Kernel.lean ====
abbrev S8x4096x1280 : Shape := ⟨3, ![8, 4096, 1280]⟩
abbrev S4544x1280 : Shape := ⟨2, ![4544, 1280]⟩
abbrev S9088x40 : Shape := ⟨2, ![9088, 40]⟩
abbrev S32768x1280 : Shape := ⟨2, ![32768, 1280]⟩
abbrev S_ : Shape := ⟨0, ![]⟩
abbrev S9088x128 : Shape := ⟨2, ![9088, 128]⟩
abbrev S32768x9088 : Shape := ⟨2, ![32768, 9088]⟩
abbrev S32768x40 : Shape := ⟨2, ![32768, 40]⟩
abbrev S512x1280 : Shape := ⟨2, ![512, 1280]⟩
abbrev S512x9088 : Shape := ⟨2, ![512, 9088]⟩
abbrev S512x40 : Shape := ⟨2, ![512, 40]⟩
abbrev S9088x1280 : Shape := ⟨2, ![9088, 1280]⟩
abbrev S64x128 : Shape := ⟨2, ![64, 128]⟩
abbrev S64x1280 : Shape := ⟨2, ![64, 1280]⟩
abbrev S16x1280 : Shape := ⟨2, ![16, 1280]⟩
abbrev S64x128x1 : Shape := ⟨3, ![64, 128, 1]⟩
abbrev S64x40 : Shape := ⟨2, ![64, 40]⟩
abbrev S256x1280 : Shape := ⟨2, ![256, 1280]⟩
abbrev S512x256 : Shape := ⟨2, ![512, 256]⟩
abbrev S128x1280 : Shape := ⟨2, ![128, 1280]⟩
abbrev S512x128 : Shape := ⟨2, ![512, 128]⟩

abbrev nBuf : Space → Nat
  | .hbm => 10
  | .vmem => 12
  | .smem => 0
  | _ => 0

abbrev bufTy : (tb : Table) → Fin (tcTables nBuf tb) → BufTy
  | .hbm, ⟨0, _⟩ => ⟨S8x4096x1280, .bf16⟩
  | .hbm, ⟨1, _⟩ => ⟨S4544x1280, .i8⟩
  | .hbm, ⟨2, _⟩ => ⟨S9088x40, .i8⟩
  | .hbm, ⟨3, _⟩ => ⟨S32768x1280, .bf16⟩
  | .hbm, ⟨4, _⟩ => ⟨S_, .i32⟩
  | .hbm, ⟨5, _⟩ => ⟨S_, .i8⟩
  | .hbm, ⟨6, _⟩ => ⟨S9088x128, .i8⟩
  | .hbm, ⟨7, _⟩ => ⟨S32768x9088, .bf16⟩
  | .hbm, ⟨8, _⟩ => ⟨S32768x1280, .fp8e4m3⟩
  | .hbm, ⟨9, _⟩ => ⟨S32768x40, .f32⟩
  | .local _ .vmem, ⟨0, _⟩ => ⟨S512x1280, .bf16⟩
  | .local _ .vmem, ⟨1, _⟩ => ⟨S512x1280, .bf16⟩
  | .local _ .vmem, ⟨2, _⟩ => ⟨S4544x1280, .i8⟩
  | .local _ .vmem, ⟨3, _⟩ => ⟨S9088x128, .i8⟩
  | .local _ .vmem, ⟨4, _⟩ => ⟨S512x9088, .bf16⟩
  | .local _ .vmem, ⟨5, _⟩ => ⟨S512x9088, .bf16⟩
  | .local _ .vmem, ⟨6, _⟩ => ⟨S512x1280, .fp8e4m3⟩
  | .local _ .vmem, ⟨7, _⟩ => ⟨S512x1280, .fp8e4m3⟩
  | .local _ .vmem, ⟨8, _⟩ => ⟨S512x40, .f32⟩
  | .local _ .vmem, ⟨9, _⟩ => ⟨S512x40, .f32⟩
  | .local _ .vmem, ⟨10, _⟩ => ⟨S9088x1280, .bf16⟩
  | .local _ .vmem, ⟨11, _⟩ => ⟨S512x1280, .bf16⟩
  | _, _ => ⟨S8x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_3110 : BitVec 32 := 0#32
  let c71_i32 : BitVec 32 := 71#32
  let v9471 : BitVec 32 := Scalar.addi c0_i32_3110 c71_i32
  let c1_i32_3111 : BitVec 32 := 1#32
  ⟨c0_i32_3110, v9471, c1_i32_3111⟩
def k0_off1 (k0_t1 : Fin k0_t1_loop.trips) : Fin 2 → Nat :=
  let c0_i32_3110 : BitVec 32 := 0#32
  let c1_i32_3111 : BitVec 32 := 1#32
  let arg9 : BitVec 32 := Scf.iv c0_i32_3110 c1_i32_3111 k0_t1
  let c64_i32_3113 : BitVec 32 := 64#32
  let v9472 : BitVec 32 := Scalar.muli arg9 c64_i32_3113
  let v9474 : Index := Scalar.indexCast v9472
  let c0_3114 : Index := 0#32
  ![v9474.toNat, 0]
def k0_mult1 (k0_t1 : Fin k0_t1_loop.trips) : BitVec 32 :=
  let c0_i32_3120 : BitVec 32 := 0#32
  let c0_i32_3110 : BitVec 32 := 0#32
  let c1_i32_3111 : BitVec 32 := 1#32
  let arg9 : BitVec 32 := Scf.iv c0_i32_3110 c1_i32_3111 k0_t1
  let c64_i32_3113 : BitVec 32 := 64#32
  let v9472 : BitVec 32 := Scalar.muli arg9 c64_i32_3113
  let v9493 : BitVec 32 := Scalar.addi c0_i32_3120 v9472
  v9493
def k0_off2 (k0_t1 : Fin k0_t1_loop.trips) (c0_i32_3120 : BitVec 32) : Fin 2 → Nat :=
  let c0_i32_3110 : BitVec 32 := 0#32
  let c1_i32_3111 : BitVec 32 := 1#32
  let arg9 : BitVec 32 := Scf.iv c0_i32_3110 c1_i32_3111 k0_t1
  let c64_i32_3113 : BitVec 32 := 64#32
  let v9472 : BitVec 32 := Scalar.muli arg9 c64_i32_3113
  let v9493 : BitVec 32 := Scalar.addi c0_i32_3120 v9472
  let v9494 : BitVec 32 := v9493
  let v9497 : Index := Scalar.indexCast v9494
  let c0_3121 : Index := 0#32
  ![v9497.toNat, 0]
def k0_off3 (k0_t1 : Fin k0_t1_loop.trips) (c0_i32_3120 : BitVec 32) : Fin 2 → Nat :=
  let c0_i32_3110 : BitVec 32 := 0#32
  let c1_i32_3111 : BitVec 32 := 1#32
  let arg9 : BitVec 32 := Scf.iv c0_i32_3110 c1_i32_3111 k0_t1
  let c64_i32_3113 : BitVec 32 := 64#32
  let v9472 : BitVec 32 := Scalar.muli arg9 c64_i32_3113
  let v9493 : BitVec 32 := Scalar.addi c0_i32_3120 v9472
  let v9494 : BitVec 32 := v9493
  let v9545 : Index := Scalar.indexCast v9494
  let c0_3134 : Index := 0#32
  ![v9545.toNat, 0]
def k0_off4 (k0_t1 : Fin k0_t1_loop.trips) (c0_i32_3120 : BitVec 32) : Fin 2 → Nat :=
  let c0_i32_3110 : BitVec 32 := 0#32
  let c1_i32_3111 : BitVec 32 := 1#32
  let arg9 : BitVec 32 := Scf.iv c0_i32_3110 c1_i32_3111 k0_t1
  let c64_i32_3113 : BitVec 32 := 64#32
  let v9472 : BitVec 32 := Scalar.muli arg9 c64_i32_3113
  let v9493 : BitVec 32 := Scalar.addi c0_i32_3120 v9472
  let v9494 : BitVec 32 := v9493
  let v9588 : Index := Scalar.indexCast v9494
  let c128_3146 : Index := 128#32
  ![v9588.toNat, 128]
def k0_off5 (k0_t1 : Fin k0_t1_loop.trips) (c0_i32_3120 : BitVec 32) : Fin 2 → Nat :=
  let c0_i32_3110 : BitVec 32 := 0#32
  let c1_i32_3111 : BitVec 32 := 1#32
  let arg9 : BitVec 32 := Scf.iv c0_i32_3110 c1_i32_3111 k0_t1
  let c64_i32_3113 : BitVec 32 := 64#32
  let v9472 : BitVec 32 := Scalar.muli arg9 c64_i32_3113
  let v9493 : BitVec 32 := Scalar.addi c0_i32_3120 v9472
  let v9494 : BitVec 32 := v9493
  let v9631 : Index := Scalar.indexCast v9494
  let c256_3158 : Index := 256#32
  ![v9631.toNat, 256]
def k0_off6 (k0_t1 : Fin k0_t1_loop.trips) (c0_i32_3120 : BitVec 32) : Fin 2 → Nat :=
  let c0_i32_3110 : BitVec 32 := 0#32
  let c1_i32_3111 : BitVec 32 := 1#32
  let arg9 : BitVec 32 := Scf.iv c0_i32_3110 c1_i32_3111 k0_t1
  let c64_i32_3113 : BitVec 32 := 64#32
  let v9472 : BitVec 32 := Scalar.muli arg9 c64_i32_3113
  let v9493 : BitVec 32 := Scalar.addi c0_i32_3120 v9472
  let v9494 : BitVec 32 := v9493
  let v9674 : Index := Scalar.indexCast v9494
  let c384_3170 : Index := 384#32
  ![v9674.toNat, 384]
def k0_off7 (k0_t1 : Fin k0_t1_loop.trips) (c0_i32_3120 : BitVec 32) : Fin 2 → Nat :=
  let c0_i32_3110 : BitVec 32 := 0#32
  let c1_i32_3111 : BitVec 32 := 1#32
  let arg9 : BitVec 32 := Scf.iv c0_i32_3110 c1_i32_3111 k0_t1
  let c64_i32_3113 : BitVec 32 := 64#32
  let v9472 : BitVec 32 := Scalar.muli arg9 c64_i32_3113
  let v9493 : BitVec 32 := Scalar.addi c0_i32_3120 v9472
  let v9494 : BitVec 32 := v9493
  let v9717 : Index := Scalar.indexCast v9494
  let c512_3182 : Index := 512#32
  ![v9717.toNat, 512]
def k0_off8 (k0_t1 : Fin k0_t1_loop.trips) (c0_i32_3120 : BitVec 32) : Fin 2 → Nat :=
  let c0_i32_3110 : BitVec 32 := 0#32
  let c1_i32_3111 : BitVec 32 := 1#32
  let arg9 : BitVec 32 := Scf.iv c0_i32_3110 c1_i32_3111 k0_t1
  let c64_i32_3113 : BitVec 32 := 64#32
  let v9472 : BitVec 32 := Scalar.muli arg9 c64_i32_3113
  let v9493 : BitVec 32 := Scalar.addi c0_i32_3120 v9472
  let v9494 : BitVec 32 := v9493
  let v9760 : Index := Scalar.indexCast v9494
  let c640_3194 : Index := 640#32
  ![v9760.toNat, 640]
def k0_off9 (k0_t1 : Fin k0_t1_loop.trips) (c0_i32_3120 : BitVec 32) : Fin 2 → Nat :=
  let c0_i32_3110 : BitVec 32 := 0#32
  let c1_i32_3111 : BitVec 32 := 1#32
  let arg9 : BitVec 32 := Scf.iv c0_i32_3110 c1_i32_3111 k0_t1
  let c64_i32_3113 : BitVec 32 := 64#32
  let v9472 : BitVec 32 := Scalar.muli arg9 c64_i32_3113
  let v9493 : BitVec 32 := Scalar.addi c0_i32_3120 v9472
  let v9494 : BitVec 32 := v9493
  let v9803 : Index := Scalar.indexCast v9494
  let c768_3206 : Index := 768#32
  ![v9803.toNat, 768]
def k0_off10 (k0_t1 : Fin k0_t1_loop.trips) (c0_i32_3120 : BitVec 32) : Fin 2 → Nat :=
  let c0_i32_3110 : BitVec 32 := 0#32
  let c1_i32_3111 : BitVec 32 := 1#32
  let arg9 : BitVec 32 := Scf.iv c0_i32_3110 c1_i32_3111 k0_t1
  let c64_i32_3113 : BitVec 32 := 64#32
  let v9472 : BitVec 32 := Scalar.muli arg9 c64_i32_3113
  let v9493 : BitVec 32 := Scalar.addi c0_i32_3120 v9472
  let v9494 : BitVec 32 := v9493
  let v9846 : Index := Scalar.indexCast v9494
  let c896_3218 : Index := 896#32
  ![v9846.toNat, 896]
def k0_off11 (k0_t1 : Fin k0_t1_loop.trips) (c0_i32_3120 : BitVec 32) : Fin 2 → Nat :=
  let c0_i32_3110 : BitVec 32 := 0#32
  let c1_i32_3111 : BitVec 32 := 1#32
  let arg9 : BitVec 32 := Scf.iv c0_i32_3110 c1_i32_3111 k0_t1
  let c64_i32_3113 : BitVec 32 := 64#32
  let v9472 : BitVec 32 := Scalar.muli arg9 c64_i32_3113
  let v9493 : BitVec 32 := Scalar.addi c0_i32_3120 v9472
  let v9494 : BitVec 32 := v9493
  let v9889 : Index := Scalar.indexCast v9494
  let c1024_3230 : Index := 1024#32
  ![v9889.toNat, 1024]
def k0_off12 (k0_t1 : Fin k0_t1_loop.trips) (c0_i32_3120 : BitVec 32) : Fin 2 → Nat :=
  let c0_i32_3110 : BitVec 32 := 0#32
  let c1_i32_3111 : BitVec 32 := 1#32
  let arg9 : BitVec 32 := Scf.iv c0_i32_3110 c1_i32_3111 k0_t1
  let c64_i32_3113 : BitVec 32 := 64#32
  let v9472 : BitVec 32 := Scalar.muli arg9 c64_i32_3113
  let v9493 : BitVec 32 := Scalar.addi c0_i32_3120 v9472
  let v9494 : BitVec 32 := v9493
  let v9932 : Index := Scalar.indexCast v9494
  let c1152_3242 : Index := 1152#32
  ![v9932.toNat, 1152]
def k0_mult2 (k0_t1 : Fin k0_t1_loop.trips) : BitVec 32 :=
  let c4544_i32 : BitVec 32 := 4544#32
  let c0_i32_3110 : BitVec 32 := 0#32
  let c1_i32_3111 : BitVec 32 := 1#32
  let arg9 : BitVec 32 := Scf.iv c0_i32_3110 c1_i32_3111 k0_t1
  let c64_i32_3113 : BitVec 32 := 64#32
  let v9472 : BitVec 32 := Scalar.muli arg9 c64_i32_3113
  let v9936 : BitVec 32 := Scalar.addi c4544_i32 v9472
  v9936
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4544x1280 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9088x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x9088 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1280 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x4096x1280 : Shape := ⟨3, ![8, 4096, 1280]⟩
abbrev S4544x1280 : Shape := ⟨2, ![4544, 1280]⟩
abbrev S9088x40 : Shape := ⟨2, ![9088, 40]⟩
abbrev S32768x1280 : Shape := ⟨2, ![32768, 1280]⟩
abbrev S32768x9088 : Shape := ⟨2, ![32768, 9088]⟩
abbrev S32768x40 : Shape := ⟨2, ![32768, 40]⟩
abbrev S32768x40x32 : Shape := ⟨3, ![32768, 40, 32]⟩
abbrev S32768x40x254 : Shape := ⟨3, ![32768, 40, 254]⟩
abbrev S32768x40x1 : Shape := ⟨3, ![32768, 40, 1]⟩
abbrev S4544x40 : Shape := ⟨2, ![4544, 40]⟩
abbrev S4544x40x32 : Shape := ⟨3, ![4544, 40, 32]⟩
abbrev S4544x40x1 : Shape := ⟨3, ![4544, 40, 1]⟩
abbrev S32768x4544 : Shape := ⟨2, ![32768, 4544]⟩

abbrev nBuf : Space → Nat
  | .hbm => 7
  | .vmem => 6
  | .smem => 0
  | _ => 0

abbrev bufTy : (tb : Table) → Fin (tcTables nBuf tb) → BufTy
  | .hbm, ⟨0, _⟩ => ⟨S8x4096x1280, .bf16⟩
  | .hbm, ⟨1, _⟩ => ⟨S4544x1280, .i8⟩
  | .hbm, ⟨2, _⟩ => ⟨S9088x40, .i8⟩
  | .hbm, ⟨3, _⟩ => ⟨S32768x1280, .bf16⟩
  | .hbm, ⟨4, _⟩ => ⟨S32768x9088, .bf16⟩
  | .hbm, ⟨5, _⟩ => ⟨S32768x1280, .fp8e4m3⟩
  | .hbm, ⟨6, _⟩ => ⟨S32768x40, .f32⟩
  | .local _ .vmem, ⟨0, _⟩ => ⟨S32768x1280, .bf16⟩
  | .local _ .vmem, ⟨1, _⟩ => ⟨S4544x1280, .i8⟩
  | .local _ .vmem, ⟨2, _⟩ => ⟨S9088x40, .i8⟩
  | .local _ .vmem, ⟨3, _⟩ => ⟨S32768x9088, .bf16⟩
  | .local _ .vmem, ⟨4, _⟩ => ⟨S32768x1280, .fp8e4m3⟩
  | .local _ .vmem, ⟨5, _⟩ => ⟨S32768x40, .f32⟩
  | _, _ => ⟨S8x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32768x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4544x1280 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9088x40 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x9088 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x1280 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Quant.lean ====
/- What one step of the kernel's quantiser computes, as functions of the sixty-four rows of activations it reads: the
   largest magnitude of each group of thirty-two, the power of two that scales it, the codes and the weighted activations.
   They follow the kernel's own operations one by one; the eight steps of a block differ only in the rows they read. -/
module

public import proofs.«01_k».proof.Proof.Gen.KernelIdeal.Skeleton

@[expose] public section

noncomputable section

namespace Cert.KernelIdeal.Quant

open Idealize.ShloMosaic Cert.KernelIdeal Cert.KernelIdeal.Gen

variable {F : FTy → Type} [FloatOps F]

/-- Each lane's own number. -/
def lane : IVec S64x128 32 := iota .tc S64x128 32 [1] Facts₀.iota_S64x128_d1_w32

/-- The lane's number modulo four, times thirty-two: the first lane of the group whose maximum the lane will hold. -/
def pick : IVec S64x128 32 :=
  have v5 : IVec S64x128 32 := lane
  let v6 : BitVec 1 := Scalar.cmpi .eq 4#32 0#32
  let v7 : BitVec 32 := Scalar.select v6 1#32 4#32
  have v8 : IVec S64x128 32 := broadcast S64x128 v7
  have v9 : IVec S64x128 32 := remsi v5 v8
  have v10 : IVec S64x128 32 := broadcast S64x128 0#32
  have v11 : IVec S64x128 1 := cmpi .ne v9 v10
  have v12 : IVec S64x128 32 := broadcast S64x128 0#32
  have v13 : IVec S64x128 1 := cmpi .slt v9 v12
  let v14 : BitVec 1 := Scalar.cmpi .slt v7 0#32
  have v15 : IVec S64x128 1 := broadcast S64x128 v14
  have v16 : IVec S64x128 1 := broadcastTo S64x128 v15 Facts₀.broadcasts_S64x128_S64x128
  have v17 : IVec S64x128 1 := xori v13 v16
  have v18 : IVec S64x128 1 := andi v17 v11
  have v19 : IVec S64x128 32 := broadcast S64x128 v7
  have v20 : IVec S64x128 32 := addi v9 v19
  have v21 : IVec S64x128 32 := select v18 v20 v9
  have v22 : IVec S64x128 32 := broadcast S64x128 32#32
  muli v21 v22

/-- The quotient of each lane's number by `d`, rounded down. -/
def laneDiv (d : BitVec 32) : IVec S64x128 32 :=
  have v5 : IVec S64x128 32 := lane
  have v66 : IVec S64x128 32 := broadcast S64x128 d
  have v67 : IVec S64x128 32 := divsi v5 v66
  have v68 : IVec S64x128 32 := broadcast S64x128 0#32
  have v69 : IVec S64x128 1 := cmpi .sgt v5 v68
  have v70 : IVec S64x128 32 := extui 32 v69 Facts₀.natLt_1_32
  have v71 : IVec S64x128 32 := broadcast S64x128 0#32
  have v72 : IVec S64x128 1 := cmpi .slt v5 v71
  have v73 : IVec S64x128 32 := extui 32 v72 Facts₀.natLt_1_32
  have v74 : IVec S64x128 32 := subi v70 v73
  let v75 : BitVec 1 := Scalar.cmpi .sgt d 0#32
  let v76 : BitVec 32 := Scalar.extui v75
  let v77 : BitVec 1 := Scalar.cmpi .slt d 0#32
  let v78 : BitVec 32 := Scalar.extui v77
  let v79 : BitVec 32 := Scalar.subi v76 v78
  have v80 : IVec S64x128 32 := broadcast S64x128 v79
  have v81 : IVec S64x128 1 := cmpi .ne v74 v80
  have v82 : IVec S64x128 32 := broadcast S64x128 d
  have v83 : IVec S64x128 32 := remsi v5 v82
  have v84 : IVec S64x128 32 := broadcast S64x128 0#32
  have v85 : IVec S64x128 1 := cmpi .ne v83 v84
  have v86 : IVec S64x128 1 := andi v81 v85
  have v87 : IVec S64x128 32 := broadcast S64x128 1#32
  have v88 : IVec S64x128 32 := subi v67 v87
  select v86 v88 v67

/-- A lane index made ready for a gather: one below zero counted from the end. -/
def wrap (v : IVec S64x128 32) : IVec S64x128 32 :=
  shapeCast S64x128 (shapeCast S64x128x1 (select (cmpi .slt v (broadcast S64x128 0#32)) (addi v (broadcast S64x128 128#32)) v)
    Facts₀.shapeCasts_S64x128_S64x128x1) Facts₀.shapeCasts_S64x128x1_S64x128

/-- One halving of the distance over which the maximum is gathered: the larger of each lane and the lane `128 - k` on. -/
def fold (k : BitVec 32) (u : FVec F S64x128 .bf16) : FVec F S64x128 .bf16 :=
  maximumf u (dynamicRotate 1 k none u Facts₀.rotates_S64x128_d1)

/-- The group maxima of one slab of 128 lanes, the maximum of group `g` of the slab in each lane that is `g` modulo four. -/
def slabMax (u : FVec F S64x128 .bf16) : FVec F S64x128 .f32 :=
  dynamicGather 1 (extf .f32 (fold 127#32 (fold 126#32 (fold 124#32 (fold 120#32 (fold 112#32 (absf u)))))) Facts₀.bitsLt_bf16_f32)
    (wrap pick)

/-- The rows, as the kernel first reads them. -/
def rows (x : FVec F S64x1280 .bf16) : FVec F S64x1280 .bf16 := shapeCast S64x1280 x Facts₀.shapeCasts_S64x1280_S64x1280

/-- The lanes that hold slab `j`'s group maxima take them; the others keep what the earlier slabs left. -/
def slabIn (j : BitVec 32) (u : FVec F S64x128 .bf16) (a : FVec F S64x128 .f32) : FVec F S64x128 .f32 :=
  select (cmpi .eq (laneDiv 4#32) (broadcast S64x128 j)) (slabMax u) a

/-- Every group's largest magnitude: group `g` in lane `g`. -/
def amax (x : FVec F S64x1280 .bf16) : FVec F S64x128 .f32 :=
  slabIn 9#32 (extractStridedSlice S64x128 ![0, 1152] (rows x) Facts₀.slices_S64x1280_o0_1152_S64x128) <|
  slabIn 8#32 (extractStridedSlice S64x128 ![0, 1024] (rows x) Facts₀.slices_S64x1280_o0_1024_S64x128) <|
  slabIn 7#32 (extractStridedSlice S64x128 ![0, 896] (rows x) Facts₀.slices_S64x1280_o0_896_S64x128) <|
  slabIn 6#32 (extractStridedSlice S64x128 ![0, 768] (rows x) Facts₀.slices_S64x1280_o0_768_S64x128) <|
  slabIn 5#32 (extractStridedSlice S64x128 ![0, 640] (rows x) Facts₀.slices_S64x1280_o0_640_S64x128) <|
  slabIn 4#32 (extractStridedSlice S64x128 ![0, 512] (rows x) Facts₀.slices_S64x1280_o0_512_S64x128) <|
  slabIn 3#32 (extractStridedSlice S64x128 ![0, 384] (rows x) Facts₀.slices_S64x1280_o0_384_S64x128) <|
  slabIn 2#32 (extractStridedSlice S64x128 ![0, 256] (rows x) Facts₀.slices_S64x1280_o0_256_S64x128) <|
  slabIn 1#32 (extractStridedSlice S64x128 ![0, 128] (rows x) Facts₀.slices_S64x1280_o0_128_S64x128) <|
  slabMax (extractStridedSlice S64x128 ![0, 0] (rows x) Facts₀.slices_S64x1280_o0_0_S64x128)

/-- One step of the search for the exponent field of `t`: the field grows by `s` where `t` is at least the power of two so named. -/
def search (s : BitVec 32) (t : FVec F S64x128 .f32) (f : IVec S64x128 32) : IVec S64x128 32 :=
  select (cmpf .oge t (bitcastToFloat .f32 (shli (addi f (broadcast S64x128 s)) (broadcast S64x128 23#32))))
    (addi f (broadcast S64x128 s)) f

/-- The exponent field of `t`, found in eight steps. -/
def field (t : FVec F S64x128 .f32) : IVec S64x128 32 :=
  search 1#32 t <| search 2#32 t <| search 4#32 t <| search 8#32 t <| search 16#32 t <| search 32#32 t <| search 64#32 t <|
    search 128#32 t (broadcast S64x128 0#32)

/-- The group maxima over 448. -/
def scaled (x : FVec F S64x1280 .bf16) : FVec F S64x128 .f32 := mulf (amax x) (broadcast S64x128 (Scalar.ofBits .f32 0x3B124925#32))

/-- The scale whose exponent field is one more than `f`, or one where `f` is zero. -/
def scaleOf (f : IVec S64x128 32) : FVec F S64x128 .f32 :=
  bitcastToFloat .f32 (shli (select (cmpi .eq f (broadcast S64x128 0#32)) (broadcast S64x128 127#32)
    (addi f (broadcast S64x128 1#32))) (broadcast S64x128 23#32))

/-- Its inverse. -/
def invOf (f : IVec S64x128 32) : FVec F S64x128 .f32 :=
  bitcastToFloat .f32 (shli (select (cmpi .eq f (broadcast S64x128 0#32)) (broadcast S64x128 127#32)
    (subi (broadcast S64x128 253#32) f)) (broadcast S64x128 23#32))

/-- A float32 rounded to a bfloat16 and widened again. -/
def half (v : FVec F S64x128 .f32) : FVec F S64x128 .f32 :=
  extf .f32 (truncf .bf16 v Facts₀.bitsLt_bf16_f32) Facts₀.bitsLt_bf16_f32

/-- A per-group factor spread over the lanes of slab `j`: the lane's group is its number over 32, and four to a slab. -/
def spread (j4 : BitVec 32) (v : FVec F S64x128 .f32) : FVec F S64x128 .bf16 :=
  truncf .bf16 (dynamicGather 1 v (wrap (addi (laneDiv 32#32) (broadcast S64x128 j4)))) Facts₀.bitsLt_bf16_f32

/-- One slab's codes: the activations times the inverse scale, held within 448 of zero. -/
def codeOf (u s : FVec F S64x128 .bf16) : FVec F S64x128 .fp8e4m3 :=
  truncf .fp8e4m3 (minimumf (broadcast S64x128 (Scalar.truncf .bf16 Facts₀.bitsLt_bf16_f32 (Scalar.ofBits .f32 0x43E00000#32)))
    (maximumf (broadcast S64x128 (Scalar.truncf .bf16 Facts₀.bitsLt_bf16_f32 (Scalar.ofBits .f32 0xC3E00000#32))) (mulf u s)))
    Facts₀.bitsLt_fp8e4m3_bf16

/-- The scales of the sixty-four rows' groups, group `g` in lane `g`. -/
def scale (x : FVec F S64x1280 .bf16) : FVec F S64x128 .f32 := scaleOf (field (scaled x))

/-- The codes of one slab `u` of the rows `x`, `j4` its first group. -/
def codes (j4 : BitVec 32) (x : FVec F S64x1280 .bf16) (u : FVec F S64x128 .bf16) : FVec F S64x128 .fp8e4m3 :=
  codeOf u (spread j4 (half (invOf (field (scaled x)))))

/-- The weighted activations of the slab: its codes times its groups' scales. -/
def weighted (j4 : BitVec 32) (x : FVec F S64x1280 .bf16) (u : FVec F S64x128 .bf16) : FVec F S64x128 .bf16 :=
  mulf (extf .bf16 (codes j4 x u) Facts₀.bitsLt_fp8e4m3_bf16) (spread j4 (half (scale x)))

end Cert.KernelIdeal.Quant

end
-- ==== Proof.Pieces.lean ====
/- What one grid point's stores write, as lists of pieces, last first: the scales by sixty-four rows, the codes and the
   weighted activations by sixty-four rows and one slab of lanes, the product by 256 columns (the last piece 128). -/
module

public import proofs.«01_k».proof.Proof.Gen.KernelIdeal.Frame
public import proofs.«01_k».proof.Proof.Quant

@[expose] public section

noncomputable section

namespace Cert.KernelIdeal.Quant

open Idealize.ShloMosaic Cert.KernelIdeal Cert.KernelIdeal.Gen Idealize.ShloMosaic.TcCoe

variable {F : FTy → Type} [FloatOps F]

/-- Every slab lies within the rows. -/
theorem slices_slab : ∀ j : Fin 10, S64x1280.Slices ![0, 128 * j.val] S64x128 := by decide

/-- Slab `j` of sixty-four rows: 128 of their lanes. -/
def slab (j : Fin 10) (x : FVec F S64x1280 .bf16) : FVec F S64x128 .bf16 :=
  extractStridedSlice (s := S64x1280) S64x128 (![0, 128 * j.val] : Fin 2 → Nat) (rows x) (slices_slab j)

section
variable (arg1 : Memref sig .tc .vmem S512x1280 .bf16) (harg1 : arg1.IsWhole) (x : Vec F S512x1280 .bf16)

/-- Rows `64 r` to `64 r + 63` of the block, as step `r` loads them. -/
def chunkAt (r : Fin 8) : FVec F S64x1280 .bf16 :=
  View.readAt (Elt F) arg1.view (Rect.unit (s := S512x1280) ![64 * r, 0] S64x1280.size (by decide +revert)).toLoadRect (harg1.unread x)

/-- Step `r`'s scales. -/
def pieceScale (r : Fin 8) : View.Piece (Elt F) S512x40 .f32 :=
  ⟨Rect.unit (s := S512x40) ![64 * r, 0] S64x40.size (by decide +revert),
    extractStridedSlice S64x40 ![0, 0] (scale (chunkAt arg1 harg1 x r)) Facts₀.slices_S64x128_o0_0_S64x40⟩

/-- Step `r`'s codes of slab `j`. -/
def pieceCode (rj : Fin 8 × Fin 10) : View.Piece (Elt F) S512x1280 .fp8e4m3 :=
  ⟨Rect.unit (s := S512x1280) ![64 * rj.1, 128 * rj.2] S64x128.size (by revert rj; decide),
    codes (BitVec.ofNat 32 (4 * rj.2)) (chunkAt arg1 harg1 x rj.1) (slab rj.2 (chunkAt arg1 harg1 x rj.1))⟩

/-- Step `r`'s weighted activations of slab `j`. -/
def pieceX (rj : Fin 8 × Fin 10) : View.Piece (Elt F) S512x1280 .bf16 :=
  ⟨Rect.unit (s := S512x1280) ![64 * rj.1, 128 * rj.2] S64x128.size (by revert rj; decide),
    shapeCast S64x128 (weighted (BitVec.ofNat 32 (4 * rj.2)) (chunkAt arg1 harg1 x rj.1) (slab rj.2 (chunkAt arg1 harg1 x rj.1)))
      Facts₀.shapeCasts_S64x128_S64x128⟩

/-- The steps, last first. -/
def steps : List (Fin 8) := [7, 6, 5, 4, 3, 2, 1, 0]

/-- The steps and slabs, last first. -/
def tiles : List (Fin 8 × Fin 10) := steps.flatMap fun r => [9, 8, 7, 6, 5, 4, 3, 2, 1, 0].map fun j => (r, j)
end

/-- The weighted activations as the products load them. -/
def xwAt (arg1 : Memref sig .tc .vmem S512x1280 .bf16) (harg1 : arg1.IsWhole) (arg8 : Memref sig .tc .vmem S512x1280 .bf16)
    (x : Vec F S512x1280 .bf16) : Vec F S512x1280 .bf16 :=
  arg8.view.readCov (tiles.map (pieceX arg1 harg1 x))
    (Rect.unit (s := S512x1280) ![0, 0] S512x1280.size Facts₀.inb_S512x1280_S512x1280_0_0).toLoadRect

/-- The product of 256 columns, from column `256 n`; `w` loads rows of the weights. -/
def pieceY (xw : Vec F S512x1280 .bf16) (w : (R : LoadRect S9088x1280) → R.shape.Idx → Elt F .bf16) (n : Fin 35) :
    View.Piece (Elt F) S512x9088 .bf16 :=
  ⟨Rect.unit (s := S512x9088) ![0, 256 * n] S512x256.size (by decide +revert),
    truncf .bf16 (matmul dot_S512x1280_S256x1280_S512x256_1_1_0_0_n_n none xw
      (w (Rect.unit (s := S9088x1280) ![256 * n, 0] S256x1280.size (by decide +revert)).toLoadRect)
      (constant S512x256 .f32 0x00000000#32)) Facts₀.bitsLt_bf16_f32⟩

/-- The product of the last 128 columns. -/
def pieceYLast (xw : Vec F S512x1280 .bf16) (w : (R : LoadRect S9088x1280) → R.shape.Idx → Elt F .bf16) :
    View.Piece (Elt F) S512x9088 .bf16 :=
  ⟨Rect.unit (s := S512x9088) ![0, 8960] S512x128.size (by decide),
    truncf .bf16 (matmul dot_S512x1280_S128x1280_S512x128_1_1_0_0_n_n none xw
      (w (Rect.unit (s := S9088x1280) ![8960, 0] S128x1280.size (by decide)).toLoadRect)
      (constant S512x128 .f32 0x00000000#32)) Facts₀.bitsLt_bf16_f32⟩

/-- All the products' pieces, last first. -/
def piecesY (xw : Vec F S512x1280 .bf16) (w : (R : LoadRect S9088x1280) → R.shape.Idx → Elt F .bf16) :
    List (View.Piece (Elt F) S512x9088 .bf16) :=
  pieceYLast xw w :: [34, 33, 32, 31, 30, 29, 28, 27, 26, 25, 24, 23, 22, 21, 20, 19, 18, 17, 16, 15, 14, 13, 12, 11, 10,
    9, 8, 7, 6, 5, 4, 3, 2, 1, 0].map (pieceY xw w)

section
variable (c : Dev nD) (i : grid0.Coords) (arg1 : Memref sig .tc .vmem S512x1280 .bf16) (harg1 : arg1.IsWhole)
  (arg2 : Memref sig .tc .vmem S4544x1280 .i8) (harg2 : arg2.IsWhole) (arg3 : Memref sig .tc .vmem S9088x128 .i8)
  (harg3 : arg3.IsWhole) (arg4 : Memref sig .tc .vmem S512x9088 .bf16) (harg4 : arg4.IsWhole)
  (arg5 : Memref sig .tc .vmem S512x1280 .fp8e4m3) (harg5 : arg5.IsWhole) (arg6 : Memref sig .tc .vmem S512x40 .f32)
  (harg6 : arg6.IsWhole) (arg7 : Memref sig .tc .vmem S9088x1280 .bf16) (harg7 : arg7.IsWhole)
  (arg8 : Memref sig .tc .vmem S512x1280 .bf16) (harg8 : arg8.IsWhole)
  (x0 : Vec F S512x1280 .bf16) (x1 : Vec F S4544x1280 .i8) (x2 : Vec F S9088x128 .i8) (xs0 : Vec F S9088x1280 .bf16)

/-- A later point's stores of scales. -/
theorem listB_5 (hc0 : ¬cond0_0 i) :
    (kernelRun0_B c i arg1 harg1 arg2 harg2 arg3 harg3 arg4 harg4 arg5 harg5 arg6 harg6 arg7 harg7 arg8 harg8 hc0 x0 x1 x2 xs0).2.2.1
      = steps.map (pieceScale arg1 harg1 x0) := by
  sl_kernel_rfl

/-- A later point's stores of codes. -/
theorem listB_4 (hc0 : ¬cond0_0 i) :
    (kernelRun0_B c i arg1 harg1 arg2 harg2 arg3 harg3 arg4 harg4 arg5 harg5 arg6 harg6 arg7 harg7 arg8 harg8 hc0 x0 x1 x2 xs0).2.1
      = tiles.map (pieceCode arg1 harg1 x0) := by
  sl_kernel_rfl

/-- A later point's stores of products. -/
theorem listB_3 (hc0 : ¬cond0_0 i) :
    (kernelRun0_B c i arg1 harg1 arg2 harg2 arg3 harg3 arg4 harg4 arg5 harg5 arg6 harg6 arg7 harg7 arg8 harg8 hc0 x0 x1 x2 xs0).1
      = piecesY (xwAt arg1 harg1 arg8 x0) (fun R => View.readAt (Elt F) arg7.view R (harg7.unread xs0)) := by
  sl_kernel_rfl

/-- The first point's stores of scales. -/
theorem listA_5 (hc0 : cond0_0 i) :
    (kernelRun0_A c i arg1 harg1 arg2 harg2 arg3 harg3 arg4 harg4 arg5 harg5 arg6 harg6 arg7 harg7 arg8 harg8 hc0 x0 x1 x2).2.2.1
      = steps.map (pieceScale arg1 harg1 x0) := by
  sl_kernel_rfl

/-- The first point's stores of codes. -/
theorem listA_4 (hc0 : cond0_0 i) :
    (kernelRun0_A c i arg1 harg1 arg2 harg2 arg3 harg3 arg4 harg4 arg5 harg5 arg6 harg6 arg7 harg7 arg8 harg8 hc0 x0 x1 x2).2.1
      = tiles.map (pieceCode arg1 harg1 x0) := by
  sl_kernel_rfl

/-- The first point's stores of products: it loads the weights it has decoded. -/
theorem listA_3 (hc0 : cond0_0 i) :
    (kernelRun0_A c i arg1 harg1 arg2 harg2 arg3 harg3 arg4 harg4 arg5 harg5 arg6 harg6 arg7 harg7 arg8 harg8 hc0 x0 x1 x2).1
      = piecesY (xwAt arg1 harg1 arg8 x0) (fun R => arg7.view.readCov
        (kernelRun0_A c i arg1 harg1 arg2 harg2 arg3 harg3 arg4 harg4 arg5 harg5 arg6 harg6 arg7 harg7 arg8 harg8 hc0 x0 x1 x2).2.2.2.1 R) := by
  sl_kernel_rfl
end

end Cert.KernelIdeal.Quant

end
-- ==== Proof.Decode.lean ====
/- What the first grid point's loop stores into the decoded weights, as a list of pieces: seventy-one trips of sixty-four
   packed rows, each trip storing the rows of the low halves of the bytes and those of the high halves by ten slabs of lanes. -/
module

public import proofs.«01_k».proof.Proof.Pieces

@[expose] public section

noncomputable section

namespace Cert.KernelIdeal.Decode

open Idealize.ShloMosaic Cert.KernelIdeal Cert.KernelIdeal.Gen Cert.KernelIdeal.Quant Idealize.ShloMosaic.TcCoe

variable {F : FTy → Type} [FloatOps F]

/-- The first row of a half of the weights, as the kernel's word. -/
def base (h : Fin 2) : BitVec 32 := BitVec.ofNat 32 (4544 * h.val)

/-- Four packed rows in a word: one half of each byte moved to the places of an eight-bit float's sign and magnitude. -/
def fields (h : Fin 2) (u : IVec S16x1280 32) : IVec S16x1280 32 :=
  match h with
  | 0 => ori (andi (shli u (broadcast S16x1280 4#32)) (broadcast S16x1280 2155905152#32))
      (andi (shli u (broadcast S16x1280 2#32)) (broadcast S16x1280 471604252#32))
  | 1 => ori (andi u (broadcast S16x1280 2155905152#32)) (andi (shrui u (broadcast S16x1280 2#32)) (broadcast S16x1280 471604252#32))

/-- The weights' four-bit values, each over sixty-four. -/
def values (h : Fin 2) (v : Vec F S64x1280 .i8) : FVec F S64x1280 .bf16 :=
  extf .bf16 (bitcastToFloat .fp8e4m3 (bitcast S64x1280 8 (fields h (bitcast S16x1280 32 v Facts₀.bitcasts_S64x1280_w8_S16x1280_w32))
    Facts₀.bitcasts_S16x1280_w32_S64x1280_w8)) Facts₀.bitsLt_fp8e4m3_bf16

/-- The weights' powers of two. -/
def scales (s : Vec F S64x128 .i8) : FVec F S64x128 .f32 :=
  half (bitcastToFloat .f32 (shli (extui 32 (shapeCast S64x128 s Facts₀.shapeCasts_S64x128_S64x128) Facts₀.natLt_8_32) (broadcast S64x128 23#32)))

/-- One slab of decoded weights. -/
def decoded (h : Fin 2) (j : Fin 10) (v : Vec F S64x1280 .i8) (s : Vec F S64x128 .i8) : FVec F S64x128 .bf16 :=
  mulf (mulf (extractStridedSlice (s := S64x1280) S64x128 (![0, 128 * j.val] : Fin 2 → Nat) (values h v) (slices_slab j))
    (broadcast S64x128 (Scalar.ofBits .bf16 0x4280#16))) (spread (BitVec.ofNat 32 (4 * j.val)) (scales s))

/-- Where trip `k` stores slab `j` of half `h`. -/
def offAt (k : Fin k0_t1_loop.trips) (h : Fin 2) (j : Fin 10) : Fin 2 → Nat := ![k0_off2 k (base h) 0, 128 * j.val]

/-- Trip `k` reads the packed weights from row `64 k`. -/
theorem off1_eq : ∀ k : Fin k0_t1_loop.trips, k0_off1 k = ![64 * k.val, 0] := by decide +kernel
/-- Trip `k` reads the scales of half `h` from row `4544 h + 64 k`. -/
theorem off2_eq : ∀ (k : Fin k0_t1_loop.trips) (h : Fin 2), k0_off2 k (base h) = ![4544 * h.val + 64 * k.val, 0] := by decide +kernel

/-- The packed rows a trip reads lie inside the packed weights. -/
theorem off1_inb : ∀ (k : Fin k0_t1_loop.trips) (a : Fin 2), k0_off1 k a + S64x1280.size a ≤ S4544x1280.size a := by decide +kernel
/-- The scales a trip reads lie inside the scales. -/
theorem off2_inb : ∀ (k : Fin k0_t1_loop.trips) (h : Fin 2) (a : Fin 2), k0_off2 k (base h) a + S64x128.size a ≤ S9088x128.size a := by
  decide +kernel
/-- The weights a trip writes lie inside the decoded weights. -/
theorem offAt_inb : ∀ (k : Fin k0_t1_loop.trips) (h : Fin 2) (j : Fin 10) (a : Fin 2), offAt k h j a + S64x128.size a ≤ S9088x1280.size a := by
  decide +kernel

section
variable (arg2 : Memref sig .tc .vmem S4544x1280 .i8) (harg2 : arg2.IsWhole) (arg3 : Memref sig .tc .vmem S9088x128 .i8)
  (harg3 : arg3.IsWhole) (x1 : Vec F S4544x1280 .i8) (x2 : Vec F S9088x128 .i8)

/-- The packed rows trip `k` loads. -/
def packedAt (k : Fin k0_t1_loop.trips) : Vec F S64x1280 .i8 :=
  View.readAt (Elt F) arg2.view (Rect.unit (s := S4544x1280) (k0_off1 k) S64x1280.size (off1_inb k)).toLoadRect (harg2.unread x1)

/-- The scales' rows trip `k` loads for half `h`. -/
def scalesAt (k : Fin k0_t1_loop.trips) (h : Fin 2) : Vec F S64x128 .i8 :=
  View.readAt (Elt F) arg3.view (Rect.unit (s := S9088x128) (k0_off2 k (base h)) S64x128.size (off2_inb k h)).toLoadRect (harg3.unread x2)

/-- One store of a trip. -/
def piece (k : Fin k0_t1_loop.trips) (hj : Fin 2 × Fin 10) : View.Piece (Elt F) S9088x1280 .bf16 :=
  ⟨Rect.unit (s := S9088x1280) (offAt k hj.1 hj.2) S64x128.size (offAt_inb k hj.1 hj.2),
    shapeCast S64x128 (decoded hj.1 hj.2 (packedAt arg2 harg2 x1 k) (scalesAt arg3 harg3 x2 k hj.1)) Facts₀.shapeCasts_S64x128_S64x128⟩

/-- A trip's stores, last first. -/
def slabs : List (Fin 2 × Fin 10) := [1, 0].flatMap fun h => [9, 8, 7, 6, 5, 4, 3, 2, 1, 0].map fun j => (h, j)

/-- The stores of the trips before `k`, last first. -/
def pieces : ℕ → List (View.Piece (Elt F) S9088x1280 .bf16)
  | 0 => []
  | k + 1 => if h : k < k0_t1_loop.trips then slabs.map (piece arg2 harg2 arg3 harg3 x1 x2 ⟨k, h⟩) ++ pieces k else pieces k
end

section
variable (c : Dev nD) (i : grid0.Coords) (arg1 : Memref sig .tc .vmem S512x1280 .bf16) (harg1 : arg1.IsWhole)
  (arg2 : Memref sig .tc .vmem S4544x1280 .i8) (harg2 : arg2.IsWhole) (arg3 : Memref sig .tc .vmem S9088x128 .i8)
  (harg3 : arg3.IsWhole) (arg4 : Memref sig .tc .vmem S512x9088 .bf16) (harg4 : arg4.IsWhole)
  (arg5 : Memref sig .tc .vmem S512x1280 .fp8e4m3) (harg5 : arg5.IsWhole) (arg6 : Memref sig .tc .vmem S512x40 .f32)
  (harg6 : arg6.IsWhole) (arg7 : Memref sig .tc .vmem S9088x1280 .bf16) (harg7 : arg7.IsWhole)
  (arg8 : Memref sig .tc .vmem S512x1280 .bf16) (harg8 : arg8.IsWhole)
  (x0 : Vec F S512x1280 .bf16) (x1 : Vec F S4544x1280 .i8) (x2 : Vec F S9088x128 .i8)

/-- One trip's stores. -/
theorem trip_eq (𝒱 : Variants) (bd : Option 𝒱.V) (k0_h1 : k0_cond1 i = 1#1) (k : Fin k0_t1_loop.trips) :
    tripL_k0_t1 𝒱 c bd i arg1 harg1 arg2 harg2 arg3 harg3 arg4 harg4 arg5 harg5 arg6 harg6 arg7 harg7 arg8 harg8 k0_h1
      (harg2.unread x1) (harg3.unread x2) k = slabs.map (piece arg2 harg2 arg3 harg3 x1 x2 k) := by
  sl_kernel_rfl

/-- The first point's stores of weights. -/
theorem listA (hc0 : cond0_0 i) :
    (kernelRun0_A c i arg1 harg1 arg2 harg2 arg3 harg3 arg4 harg4 arg5 harg5 arg6 harg6 arg7 harg7 arg8 harg8 hc0 x0 x1 x2).2.2.2.1
      = pieces arg2 harg2 arg3 harg3 x1 x2 71 := by
  sl_kernel_rfl
end

end Cert.KernelIdeal.Decode
-- ==== Proof.Nibble.lean ====
/- The weights' four-bit numbers: the value each stands for, and that moving one half of a byte to the places of an
   eight-bit float's sign and magnitude gives that value over sixty-four. -/
module

public import Idealize.ShloMosaic.Lib.BitcastFour
public import Idealize.ShloMosaic.PureOps.Ideal

@[expose] public section

noncomputable section

namespace Cert.Nibble

open Idealize.ShloMosaic

/-- The value of a four-bit float: a sign, two bits of exponent and one of mantissa. -/
def e2m1 : Fin 16 → ℝ := ![0, 1 / 2, 1, 3 / 2, 2, 3, 4, 6, 0, -(1 / 2), -1, -(3 / 2), -2, -3, -4, -6]

/-- The low and the high half of a byte. -/
def nibble (h : Fin 2) (b : BitVec 8) : Fin 16 :=
  match h with
  | 0 => ⟨b.toNat % 16, Nat.mod_lt _ (by decide)⟩
  | 1 => ⟨b.toNat / 16, Nat.div_lt_of_lt_mul b.isLt⟩

/-- One half of each of a word's four bytes, at the places of an eight-bit float's sign and magnitude. -/
def field32 (h : Fin 2) (u : BitVec 32) : BitVec 32 :=
  match h with
  | 0 => ((u <<< 4) &&& 0x80808080#32) ||| ((u <<< 2) &&& 0x1C1C1C1C#32)
  | 1 => (u &&& 0x80808080#32) ||| ((u >>> 2) &&& 0x1C1C1C1C#32)

/-- One half of a byte, so placed. -/
def field8 (h : Fin 2) (b : BitVec 8) : BitVec 8 :=
  match h with
  | 0 => ((b <<< 4) &&& 0x80#8) ||| ((b <<< 2) &&& 0x1C#8)
  | 1 => (b &&& 0x80#8) ||| ((b >>> 2) &&& 0x1C#8)

/-- The word's fields are its bytes' fields. -/
theorem field32_byte (h : Fin 2) (u : BitVec 32) (b : BitVec 8) (r : Nat) (hr : r < 4)
    (hb : ∀ q, q < 8 → u.getLsbD (8 * r + q) = b.getLsbD q) (q : Nat) (hq : q < 8) :
    (field32 h u).getLsbD (8 * r + q) = (field8 h b).getLsbD q := by
  have h0 := hb 0 (by decide)
  have h1 := hb 1 (by decide)
  have h2 := hb 2 (by decide)
  have h3 := hb 3 (by decide)
  have h4 := hb 4 (by decide)
  have h5 := hb 5 (by decide)
  have h6 := hb 6 (by decide)
  have h7 := hb 7 (by decide)
  clear hb
  match h with
  | 0 => interval_cases r <;> interval_cases q <;> simp_all [field32, field8, BitVec.getLsbD_or, BitVec.getLsbD_and, BitVec.getLsbD_shiftLeft]
  | 1 => interval_cases r <;> interval_cases q <;> simp_all [field32, field8, BitVec.getLsbD_or, BitVec.getLsbD_and, BitVec.getLsbD_ushiftRight]

/-- The field of a four-bit number. -/
def code (n : Fin 16) : BitVec 8 := field8 0 (BitVec.ofNat 8 n.val)

/-- `field8_eq`, over the 256 bytes. -/
theorem field8_eq_aux : ∀ (h : Fin 2) (n : Fin 256), field8 h (BitVec.ofFin n) = code (nibble h (BitVec.ofFin n)) := by decide +kernel

/-- The byte the kernel makes of half `h` of a packed byte is the e4m3 code of that half's four bits. -/
theorem field8_eq (h : Fin 2) (b : BitVec 8) : field8 h b = code (nibble h b) := field8_eq_aux h b.toFin

/-- Sixty-four in `bf16`. -/
theorem ofBits_64 : Ideal.ofBits .bf16 0x4280#16 = ((64 : ℝ) : EReal) := by
  simp [Ideal.ofBits, Ideal.ieee]
  norm_num [← EReal.coe_mul]

/-- The field read as an eight-bit float, times sixty-four, is the four-bit number's value. -/
theorem code_value (n : Fin 16) : Ideal.ofBits .fp8e4m3 (code n) * Ideal.ofBits .bf16 0x4280#16 = ((e2m1 n : ℝ) : EReal) := by
  rw [ofBits_64]
  show Ideal.e4m3fn _ * _ = _
  fin_cases n <;> simp [Ideal.e4m3fn, code, field8, e2m1] <;> norm_num [← EReal.coe_mul]

/-- The e4m3 number of that byte, times 64, is the e2m1 number of the four bits. -/
theorem field8_value (h : Fin 2) (b : BitVec 8) :
    Ideal.ofBits .fp8e4m3 (field8 h b) * Ideal.ofBits .bf16 0x4280#16 = ((e2m1 (nibble h b) : ℝ) : EReal) := by
  rw [field8_eq, code_value]

end Cert.Nibble
-- ==== Proof.Exponent.lean ====
/- The power of two that scales a group, found two ways: by the kernel's search for an exponent field and by the
   reference's count of the powers of two below a number. -/
module

public import Idealize.ShloMosaic.PureOps.Ideal
public import Idealize.ShloMosaic.Lib.Pointwise
public import Mathlib.Tactic.IntervalCases

@[expose] public section

noncomputable section

namespace Cert.Exponent

open Idealize.ShloMosaic

/-- The float32 whose exponent field is `w` and whose other bits are zero. -/
def power (w : BitVec 32) : EReal := Ideal.ofBits .f32 (w <<< (23 : Nat))

/-- The word `n * 2^23` has sign 0, exponent field `n` and fraction 0. -/
theorem fields : ∀ n : ℕ, n < 255 → ((BitVec.ofNat 32 n <<< (23 : Nat)).extractLsb' 31 1 == 1#1) = false
    ∧ ((BitVec.ofNat 32 n <<< (23 : Nat)).extractLsb' 23 8).toNat = n
    ∧ ((BitVec.ofNat 32 n <<< (23 : Nat)).extractLsb' 0 23).toNat = 0 := by decide +kernel

/-- A positive float32 whose exponent field is `n`, neither zero nor all ones, and whose fraction is zero. -/
theorem ofBits_power (b : BitVec 32) (n : ℕ) (h1 : 1 ≤ n) (h2 : n ≤ 254) (ha : (b.extractLsb' 31 1 == 1#1) = false)
    (hb : (b.extractLsb' 23 8).toNat = n) (hc : (b.extractLsb' 0 23).toNat = 0) :
    Ideal.ofBits .f32 b = (((2 : ℝ) ^ ((n : ℤ) - 127) : ℝ) : EReal) := by
  show Ideal.ieee 8 23 b = _
  unfold Ideal.ieee
  simp only [Nat.reduceAdd, ha, hb, hc]
  rw [if_neg (by omega), if_neg (by omega)]
  congr 1
  have h : ((n : ℤ) - 127) = (23 : ℕ) + ((n : ℤ) - (2 ^ (8 - 1) - 1) - (23 : ℕ)) := by norm_num
  rw [h, zpow_add₀ (by norm_num : (2 : ℝ) ≠ 0), zpow_natCast]
  norm_num

/-- A field between 1 and 254 names the power of two whose exponent is the field less 127. -/
theorem power_ofNat (n : ℕ) (h1 : 1 ≤ n) (h2 : n ≤ 254) :
    power (BitVec.ofNat 32 n) = (((2 : ℝ) ^ ((n : ℤ) - 127) : ℝ) : EReal) :=
  have h := fields n (by omega)
  ofBits_power _ n h1 h2 h.1 h.2.1 h.2.2

/-- The field 255 names infinity. -/
theorem power_255 : power (BitVec.ofNat 32 255) = ⊤ := by
  simp [power, Ideal.ofBits, Ideal.ieee]

/-- One step of the search: the field grows by `s` when `t` is at least the power so named. -/
def step (s : ℕ) (t : EReal) (w : BitVec 32) : BitVec 32 :=
  if power (w + BitVec.ofNat 32 s) ≤ t then w + BitVec.ofNat 32 s else w

/-- What the search keeps: the field `n` is zero or names a power of two at most `t`, and the field `n + s` names one above `t`. -/
def Found (t : ℝ) (s n : ℕ) : Prop :=
  n + s ≤ 256 ∧ (n = 0 ∨ (2 : ℝ) ^ ((n : ℤ) - 127) ≤ t) ∧ t < (2 : ℝ) ^ (((n + s : ℕ) : ℤ) - 127)

/-- A step of the search keeps what it has found, to half the distance. -/
theorem step_found {t : ℝ} (ht : t < (2 : ℝ) ^ (126 : ℤ)) {s n : ℕ} (hs : 1 ≤ s) (h : Found t (s + s) n) :
    ∃ n', step s (t : EReal) (BitVec.ofNat 32 n) = BitVec.ofNat 32 n' ∧ Found t s n' := by
  obtain ⟨h1, h2, h3⟩ := h
  have e : BitVec.ofNat 32 n + BitVec.ofNat 32 s = BitVec.ofNat 32 (n + s) := by simp [BitVec.ofNat_add]
  unfold step
  rw [e]
  by_cases hm : n + s ≤ 254
  · rw [power_ofNat _ (by omega) hm]
    split
    · rename_i hle
      refine ⟨n + s, rfl, by omega, Or.inr (EReal.coe_le_coe_iff.1 hle), ?_⟩
      rwa [add_assoc]
    · rename_i hle
      refine ⟨n, rfl, by omega, h2, ?_⟩
      by_contra hc
      exact hle (EReal.coe_le_coe_iff.2 (not_lt.1 hc))
  · have hm' : n + s = 255 := by omega
    rw [hm', power_255, if_neg (by simp)]
    refine ⟨n, rfl, by omega, h2, ht.trans_le ?_⟩
    exact zpow_le_zpow_right₀ (by norm_num) (by omega)

/-- The field the search ends with. -/
def field (t : EReal) : BitVec 32 :=
  step 1 t <| step 2 t <| step 4 t <| step 8 t <| step 16 t <| step 32 t <| step 64 t <| step 128 t 0#32

/-- It is zero for a number below 2 ^ -126, and otherwise names the largest power of two that is at most the number. -/
theorem field_spec {t : ℝ} (ht : t < (2 : ℝ) ^ (126 : ℤ)) :
    ∃ n : ℕ, n ≤ 252 ∧ field (t : EReal) = BitVec.ofNat 32 n ∧ (n = 0 ∨ (2 : ℝ) ^ ((n : ℤ) - 127) ≤ t)
      ∧ t < (2 : ℝ) ^ ((n : ℤ) - 126) := by
  have h0 : Found t (128 + 128) 0 := ⟨by omega, Or.inl rfl, ht.trans_le (zpow_le_zpow_right₀ (by norm_num) (by norm_num))⟩
  obtain ⟨n1, e1, f1⟩ := step_found ht (by norm_num) h0
  obtain ⟨n2, e2, f2⟩ := step_found (s := 64) ht (by norm_num) f1
  obtain ⟨n3, e3, f3⟩ := step_found (s := 32) ht (by norm_num) f2
  obtain ⟨n4, e4, f4⟩ := step_found (s := 16) ht (by norm_num) f3
  obtain ⟨n5, e5, f5⟩ := step_found (s := 8) ht (by norm_num) f4
  obtain ⟨n6, e6, f6⟩ := step_found (s := 4) ht (by norm_num) f5
  obtain ⟨n7, e7, f7⟩ := step_found (s := 2) ht (by norm_num) f6
  obtain ⟨n8, e8, f8⟩ := step_found (s := 1) ht (by norm_num) f7
  obtain ⟨g1, g2, g3⟩ := f8
  refine ⟨n8, ?_, ?_, g2, ?_⟩
  · rcases g2 with g2 | g2
    · omega
    · by_contra hc
      exact absurd (g2.trans_lt ht) (not_lt.2 (zpow_le_zpow_right₀ (by norm_num) (by omega)))
  · unfold field
    rw [show (0#32 : BitVec 32) = BitVec.ofNat 32 0 from rfl, e1, e2, e3, e4, e5, e6, e7, e8]
  · have : (((n8 + 1 : ℕ) : ℤ) - 127) = (n8 : ℤ) - 126 := by push_cast; ring
    rwa [this] at g3

/-- The kernel's scale for `t`, -/
def scale (t : EReal) : EReal := power (if field t = 0#32 then 127#32 else field t + 1#32)

/-- and its inverse. -/
def inv (t : EReal) : EReal := power (if field t = 0#32 then 127#32 else 253#32 - field t)

/-- The number of the powers of two `2 ^ -126, …, 2 ^ 127` that are at most `t`. -/
def count (t : EReal) : EReal := ∑ k : Fin 254, if Ideal.exp2 (((k.val : ℤ) - 126 : ℤ) : ℝ) ≤ t then (1 : EReal) else 0

/-- The reference's exponent for `t`. -/
def expo (t : EReal) : EReal := if count t = 0 then 0 else count t - ((126 : ℝ) : EReal)

/-- `exp2` of an integer is that power of two. -/
theorem exp2_coe (z : ℤ) : Ideal.exp2 ((z : ℝ) : EReal) = (((2 : ℝ) ^ z : ℝ) : EReal) := by
  show ((Real.rpow 2 (z : ℝ) : ℝ) : EReal) = _
  congr 1
  exact Real.rpow_intCast 2 z

/-- The reference's count of powers of two at most `t` is the field of `t`. -/
theorem count_eq {t : ℝ} {n : ℕ} (hn : n ≤ 252) (h1 : n = 0 ∨ (2 : ℝ) ^ ((n : ℤ) - 127) ≤ t) (h2 : t < (2 : ℝ) ^ ((n : ℤ) - 126)) :
    count (t : EReal) = ((n : ℝ) : EReal) := by
  have hk (k : Fin 254) : (Ideal.exp2 ((((k.val : ℤ) - 126 : ℤ) : ℝ) : EReal) ≤ (t : EReal)) ↔ k.val < n := by
    rw [exp2_coe, EReal.coe_le_coe_iff]
    constructor
    · intro h
      by_contra hc
      have : (2 : ℝ) ^ ((n : ℤ) - 126) ≤ (2 : ℝ) ^ ((k.val : ℤ) - 126) := zpow_le_zpow_right₀ (by norm_num) (by omega)
      linarith
    · intro h
      rcases h1 with h1 | h1
      · omega
      · exact le_trans (zpow_le_zpow_right₀ (by norm_num) (by omega)) h1
  unfold count
  simp only [hk]
  rw [Finset.sum_ite, Finset.sum_const_zero, add_zero, Finset.sum_const]
  have hc : (Finset.univ.filter fun k : Fin 254 => k.val < n).card = n := by
    rw [Fin.card_filter_val_lt]; omega
  rw [hc]
  simp

/-- The reference's exponent of `t`, from the field of `t`. -/
theorem expo_eq {t : ℝ} {n : ℕ} (hn : n ≤ 252) (h1 : n = 0 ∨ (2 : ℝ) ^ ((n : ℤ) - 127) ≤ t) (h2 : t < (2 : ℝ) ^ ((n : ℤ) - 126)) :
    expo (t : EReal) = (((if n = 0 then 0 else (n : ℤ) - 126 : ℤ) : ℝ) : EReal) := by
  unfold expo
  rw [count_eq hn h1 h2]
  by_cases h : n = 0
  · subst h; simp
  · rw [if_neg (by simpa using h), if_neg h, ← EReal.coe_sub]; push_cast; rfl

/-- The kernel's scale is the power of two of the reference's exponent. -/
theorem scale_eq {t : ℝ} (ht : t < (2 : ℝ) ^ (126 : ℤ)) : scale (t : EReal) = Ideal.exp2 (expo (t : EReal)) := by
  obtain ⟨n, hn, hf, h1, h2⟩ := field_spec ht
  rw [expo_eq hn h1 h2, exp2_coe]
  unfold scale
  rw [hf]
  by_cases h : n = 0
  · subst h
    rw [if_pos rfl, if_pos rfl]
    exact power_ofNat 127 (by norm_num) (by norm_num)
  · rw [if_neg (fun hc => h (by
      have := congrArg BitVec.toNat hc
      simp only [BitVec.toNat_ofNat] at this
      omega)), if_neg h]
    have e : BitVec.ofNat 32 n + 1#32 = BitVec.ofNat 32 (n + 1) := by simp [BitVec.ofNat_add]
    rw [e, power_ofNat _ (by omega) (by omega)]
    congr 2
    push_cast; ring

/-- Its inverse is the power of two of that exponent's negation. -/
theorem inv_eq {t : ℝ} (ht : t < (2 : ℝ) ^ (126 : ℤ)) : inv (t : EReal) = Ideal.exp2 (0 - expo (t : EReal)) := by
  obtain ⟨n, hn, hf, h1, h2⟩ := field_spec ht
  have z : (0 : EReal) = ((0 : ℝ) : EReal) := rfl
  rw [expo_eq hn h1 h2, z, ← EReal.coe_sub]
  have c : (0 : ℝ) - ((if n = 0 then 0 else (n : ℤ) - 126 : ℤ) : ℝ) = (((0 : ℤ) - (if n = 0 then 0 else (n : ℤ) - 126) : ℤ) : ℝ) := by
    push_cast; rfl
  rw [c, exp2_coe]
  unfold inv
  rw [hf]
  by_cases h : n = 0
  · subst h
    rw [if_pos rfl, if_pos rfl]
    exact power_ofNat 127 (by norm_num) (by norm_num)
  · rw [if_neg (fun hc => h (by
      have := congrArg BitVec.toNat hc
      simp only [BitVec.toNat_ofNat] at this
      omega)), if_neg h]
    have e : 253#32 - BitVec.ofNat 32 n = BitVec.ofNat 32 (253 - n) := by
      apply BitVec.eq_of_toNat_eq
      simp only [BitVec.toNat_sub, BitVec.toNat_ofNat]
      omega
    rw [e, power_ofNat _ (by omega) (by omega)]
    congr 2
    omega

end Cert.Exponent

end
-- ==== Proof.Row.lean ====
/- One row of activations, as the kernel quantises it: each group's largest magnitude, its scale and inverse scale, the
   codes and the weighted activations. -/
module

public import proofs.«01_k».proof.Proof.Exponent

@[expose] public section

noncomputable section

namespace Cert.Row

open Idealize.ShloMosaic

/-- A row of activations. -/
abbrev Row := Fin 1280 → EReal

/-- A number's magnitude. -/
def mag (a : EReal) : EReal := max a (-a)

/-- Lane `k` of group `g`. -/
def inGroup (g : Fin 40) (k : Fin 32) : Fin 1280 := ⟨32 * g.val + k.val, by omega⟩

/-- The group a lane lies in. -/
def groupOf (d : Fin 1280) : Fin 40 := ⟨d.val / 32, by omega⟩

/-- A group's largest magnitude. -/
def groupMax (x : Row) (g : Fin 40) : EReal := Finset.univ.sup fun k : Fin 32 => mag (x (inGroup g k))

/-- It over 448. -/
def scaled (x : Row) (g : Fin 40) : EReal := groupMax x g * Ideal.ofBits .f32 0x3B124925#32

/-- The group's scale, -/
def scale (x : Row) (g : Fin 40) : EReal := Exponent.scale (scaled x g)

/-- and the inverse by which the group is scaled. -/
def inv (x : Row) (g : Fin 40) : EReal := Exponent.inv (scaled x g)

/-- A number held within 448 of zero. -/
def clamp (a : EReal) : EReal := min (Ideal.ofBits .f32 0x43E00000#32) (max (Ideal.ofBits .f32 0xC3E00000#32) a)

/-- The code of lane `d`, -/
def code (x : Row) (d : Fin 1280) : EReal := clamp (x d * inv x (groupOf d))

/-- and the activation it stands for. -/
def weighted (x : Row) (d : Fin 1280) : EReal := code x d * scale x (groupOf d)

end Cert.Row

end
-- ==== Proof.Chunk.lean ====
/- What one step of the quantiser computes, read at an index: the group maxima, the scales, the codes and the weighted
   activations of each of its sixty-four rows are those of the row. -/
module
public import proofs.«01_k».proof.Proof.Pieces
public import proofs.«01_k».proof.Proof.Row
public import Idealize.ShloMosaic.Lib.Pointwise
@[expose] public section
noncomputable section
namespace Cert.KernelIdeal.Quant
open Idealize.ShloMosaic Cert.KernelIdeal Cert.KernelIdeal.Gen

/-- A lane index made ready for a gather, on its word. -/
theorem wrap_apply (v : IVec S64x128 32) (i : S64x128.Idx) :
    wrap v i = if (v i).slt 0#32 then v i + 128#32 else v i := by
  unfold wrap
  rw [shapeCast_shapeCast]
  show (if _ = 1#1 then _ else _) = _
  show (if BitVec.ofBool ((v i).slt 0#32) = 1#1 then _ else _) = _
  cases (v i).slt 0#32 <;> rfl

/-- The gather of the maxima reads the first lane of the group. -/
theorem pick_lane (p : Fin 64) : ∀ l : Fin 128, (wrap pick (ix2 p l)).toNat % 128 = 32 * (l.val % 4) := by
  have h (l : Fin 128) : pick (ix2 p l) = pick (ix2 0 l) := rfl
  simp only [wrap_apply, h]
  decide +kernel

/-- A lane's number over four. -/
theorem laneDiv_four (p : Fin 64) : ∀ l : Fin 128, laneDiv 4#32 (ix2 p l) = BitVec.ofNat 32 (l.val / 4) := by
  have h (l : Fin 128) : laneDiv 4#32 (ix2 p l) = laneDiv 4#32 (ix2 0 l) := rfl
  simp only [h]
  decide +kernel

/-- The gather of the scales of slab `j` reads the group the lane lies in. -/
theorem spread_lane (p : Fin 64) : ∀ (j : Fin 10) (l : Fin 128),
    (wrap (addi (laneDiv 32#32) (broadcast S64x128 (BitVec.ofNat 32 (4 * j.val)))) (ix2 p l)).toNat % 128 = 4 * j.val + l.val / 32 := by
  have h (l : Fin 128) : laneDiv 32#32 (ix2 p l) = BitVec.ofNat 32 (l.val / 32) := by
    have h (l : Fin 128) : laneDiv 32#32 (ix2 p l) = laneDiv 32#32 (ix2 0 l) := rfl
    simp only [h]
    revert l
    decide +kernel
  intro j l
  rw [wrap_apply]
  show BitVec.toNat (if (laneDiv 32#32 (ix2 p l) + BitVec.ofNat 32 (4 * j.val)).slt 0#32 then laneDiv 32#32 (ix2 p l) + BitVec.ofNat 32 (4 * j.val) + 128#32 else laneDiv 32#32 (ix2 p l) + BitVec.ofNat 32 (4 * j.val)) % 128 = _
  rw [h]
  revert j l
  decide +kernel

/-- A step of the search, at an index. -/
theorem search_apply (s : BitVec 32) (t : FVec Ideal S64x128 .f32) (f : IVec S64x128 32) (i : S64x128.Idx) (n : ℕ) (hs : s = BitVec.ofNat 32 n) :
    search s t f i = Exponent.step n (t i) (f i) := by
  subst hs
  have h : search (BitVec.ofNat 32 n) t f i
      = Scalar.select (Ideal.cmp .oge (t i) (Exponent.power (f i + BitVec.ofNat 32 n))) (f i + BitVec.ofNat 32 n) (f i) := rfl
  rw [h]
  unfold Exponent.step
  by_cases hle : Exponent.power (f i + BitVec.ofNat 32 n) ≤ t i <;> simp [Scalar.select, Ideal.cmp, hle]
/-- The search, at an index. -/
theorem field_apply (t : FVec Ideal S64x128 .f32) (i : S64x128.Idx) : field t i = Exponent.field (t i) := by
  unfold field Exponent.field
  simp only [search_apply 128#32 _ _ _ 128 rfl,search_apply 64#32 _ _ _ 64 rfl,search_apply 32#32 _ _ _ 32 rfl,search_apply 16#32 _ _ _ 16 rfl,search_apply 8#32 _ _ _ 8 rfl,search_apply 4#32 _ _ _ 4 rfl,search_apply 2#32 _ _ _ 2 rfl,search_apply 1#32 _ _ _ 1 rfl]
  rfl
/-- A gather along the lanes, at an index. -/
theorem gather_apply (v : FVec Ideal S64x128 .f32) (w : IVec S64x128 32) (p : Fin 64) (l m : Fin 128) (h : (w (ix2 p l)).toNat % 128 = m.val) :
  dynamicGather 1 v w (ix2 p l) = v (ix2 p m) := by
  rw [dynamicGather_apply_norm]
  refine congrArg v (funext fun b => ?_)
  match b with
  | ⟨0, _⟩ => rfl
  | ⟨1, _⟩ => exact Fin.ext h
/-- A halving of the distance, at an index. -/
theorem fold_apply (k : BitVec 32) (u : FVec Ideal S64x128 .bf16) (p : Fin 64) (l : Fin 128) :
  fold k u (ix2 p l) = max (u (ix2 p l)) (u (ix2 p ⟨(l.val + 128 - k.toNat % 128) % 128, by omega⟩)) := by
  unfold fold
  show max _ _ = _
  rw [Pointwise.dynamicRotate_apply]
  congr 2
  funext b
  match b with
  | ⟨0, _⟩ => rfl
  | ⟨1, _⟩ => rfl

/-- The group maxima of a slab: lane `l` holds that of group `l` modulo four. -/
theorem slabMax_apply (u : FVec Ideal S64x128 .bf16) (p : Fin 64) (l : Fin 128) :
    slabMax u (ix2 p l) = Finset.univ.sup fun k : Fin 32 => Row.mag (u (ix2 p ⟨32 * (l.val % 4) + k.val, by omega⟩)) := by
  unfold slabMax
  rw [gather_apply _ _ p l ⟨32 * (l.val % 4), by omega⟩ (pick_lane p l)]
  show fold 127#32 (fold 126#32 (fold 124#32 (fold 120#32 (fold 112#32 (absf u))))) (ix2 p ⟨32 * (l.val % 4), by omega⟩) = _
  have ha (l : Fin 128) : (absf u (ix2 p l) : EReal) = Row.mag (u (ix2 p l)) := rfl
  obtain ⟨q, hq⟩ : ∃ q : Fin 4, q.val = l.val % 4 := ⟨⟨l.val % 4, by omega⟩, rfl⟩
  simp only [← hq]
  apply eq_of_forall_ge_iff
  intro c
  simp only [fold_apply, max_le_iff, Finset.sup_le_iff, Finset.mem_univ, forall_const, ha]
  fin_cases q <;> simp [Fin.forall_fin_succ, Fin.succ] <;> tauto
/-- Row `p` of sixty-four. -/
def row (x : FVec Ideal S64x1280 .bf16) (p : Fin 64) : Row.Row := fun d => x (ix2 p d)

/-- A slab at an index. -/
theorem slab_apply (x : FVec Ideal S64x1280 .bf16) (j : Fin 10) (p : Fin 64) (l : Fin 128) :
    slab j x (ix2 p l) = row x p ⟨128 * j.val + l.val, by omega⟩ := by
  unfold slab rows
  rw [shapeCast_id]
  refine extractStridedSlice_apply _ _ _ _ (ix2 p ⟨128 * j.val + l.val, by omega⟩) fun a => ?_
  match a with
  | ⟨0, _⟩ => exact (Nat.zero_add _).symm
  | ⟨1, _⟩ => rfl

/-- One slab's turn: its lanes take its maxima. -/
theorem slabIn_apply (j : ℕ) (hj : j < 10) (u : FVec Ideal S64x128 .bf16) (a : FVec Ideal S64x128 .f32) (p : Fin 64) (l : Fin 128) :
    slabIn (BitVec.ofNat 32 j) u a (ix2 p l) = if l.val / 4 = j then slabMax u (ix2 p l) else a (ix2 p l) := by
  have h : slabIn (BitVec.ofNat 32 j) u a (ix2 p l)
      = Scalar.select (BitVec.ofBool (laneDiv 4#32 (ix2 p l) == BitVec.ofNat 32 j)) (slabMax u (ix2 p l)) (a (ix2 p l)) := rfl
  have e : (BitVec.ofNat 32 (l.val / 4) == BitVec.ofNat 32 j) = decide (l.val / 4 = j) := by
    rw [Bool.eq_iff_iff]
    simp only [beq_iff_eq, decide_eq_true_eq]
    constructor
    · intro h
      have := congrArg BitVec.toNat h
      simp only [BitVec.toNat_ofNat] at this
      omega
    · intro h; rw [h]
  rw [h, laneDiv_four, e]
  by_cases hle : l.val / 4 = j <;> simp [Scalar.select, hle]

/-- The group maxima of a row: lane `g` holds that of group `g`. -/
theorem amax_apply (x : FVec Ideal S64x1280 .bf16) (p : Fin 64) (g : Fin 40) :
    amax x (ix2 p ⟨g.val, by omega⟩) = Row.groupMax (row x p) g := by
  have key (j : Fin 10) (hj : g.val / 4 = j.val) :
      slabMax (slab j x) (ix2 p ⟨g.val, by omega⟩) = Row.groupMax (row x p) g := by
    rw [slabMax_apply]
    unfold Row.groupMax
    refine Finset.sup_congr rfl fun k _ => ?_
    rw [slab_apply]
    congr 2
    apply Fin.ext
    show 128 * j.val + (32 * (g.val % 4) + k.val) = 32 * g.val + k.val
    omega
  have e : amax x = slabIn (BitVec.ofNat 32 9) (slab 9 x) (slabIn (BitVec.ofNat 32 8) (slab 8 x) (slabIn (BitVec.ofNat 32 7) (slab 7 x)
      (slabIn (BitVec.ofNat 32 6) (slab 6 x) (slabIn (BitVec.ofNat 32 5) (slab 5 x) (slabIn (BitVec.ofNat 32 4) (slab 4 x)
      (slabIn (BitVec.ofNat 32 3) (slab 3 x) (slabIn (BitVec.ofNat 32 2) (slab 2 x) (slabIn (BitVec.ofNat 32 1) (slab 1 x)
      (slabMax (slab 0 x)))))))))) := rfl
  rw [e]
  iterate 9 rw [slabIn_apply _ (by norm_num)]
  split_ifs with h9 h8 h7 h6 h5 h4 h3 h2 h1
  · exact key 9 h9
  · exact key 8 h8
  · exact key 7 h7
  · exact key 6 h6
  · exact key 5 h5
  · exact key 4 h4
  · exact key 3 h3
  · exact key 2 h2
  · exact key 1 h1
  · refine key 0 ?_
    have := g.isLt
    simp only at h1 h2 h3 h4 h5 h6 h7 h8 h9
    show g.val / 4 = 0
    omega

/-- The scales at an index. -/
theorem scale_apply (x : FVec Ideal S64x1280 .bf16) (p : Fin 64) (g : Fin 40) :
    scale x (ix2 p ⟨g.val, by omega⟩) = Row.scale (row x p) g := by
  have h (i : S64x128.Idx) : scale x i = Exponent.power (Scalar.select (BitVec.ofBool (field (scaled x) i == 0#32)) 127#32 (field (scaled x) i + 1#32)) := rfl
  have hs : scaled x (ix2 p ⟨g.val, by omega⟩) = Row.scaled (row x p) g := by
    rw [Row.scaled, ← amax_apply]; rfl
  rw [h, field_apply, hs]
  unfold Row.scale Exponent.scale
  by_cases hz : Exponent.field (Row.scaled (row x p) g) = 0#32
  · simp [Scalar.select, hz]
  · rw [beq_eq_false_iff_ne.2 hz, if_neg hz]; rfl

/-- The inverse scales at an index. -/
theorem inv_apply (x : FVec Ideal S64x1280 .bf16) (p : Fin 64) (g : Fin 40) :
    invOf (F := Ideal) (field (scaled x)) (ix2 p ⟨g.val, by omega⟩) = Row.inv (row x p) g := by
  have h (i : S64x128.Idx) : invOf (F := Ideal) (field (scaled x)) i
    = Exponent.power (Scalar.select (BitVec.ofBool (field (scaled x) i == 0#32)) 127#32 (253#32 - field (scaled x) i)) := rfl
  have hs : scaled x (ix2 p ⟨g.val, by omega⟩) = Row.scaled (row x p) g := by
    rw [Row.scaled, ← amax_apply]; rfl
  rw [h, field_apply, hs]
  unfold Row.inv Exponent.inv
  by_cases hz : Exponent.field (Row.scaled (row x p) g) = 0#32
  · simp [Scalar.select, hz]
  · rw [beq_eq_false_iff_ne.2 hz, if_neg hz]; rfl

/-- A per-group factor spread over slab `j`, at an index. -/
theorem spread_apply (v : FVec Ideal S64x128 .f32) (j : Fin 10) (p : Fin 64) (l : Fin 128) :
    spread (BitVec.ofNat 32 (4 * j.val)) (half v) (ix2 p l) = v (ix2 p ⟨4 * j.val + l.val / 32, by omega⟩) :=
  gather_apply v _ p l ⟨4 * j.val + l.val / 32, by omega⟩ (spread_lane p j l)

/-- The codes of slab `j` at an index. -/
theorem codes_apply (x : FVec Ideal S64x1280 .bf16) (j : Fin 10) (p : Fin 64) (l : Fin 128) :
    codes (BitVec.ofNat 32 (4 * j.val)) x (slab j x) (ix2 p l) = Row.code (row x p) ⟨128 * j.val + l.val, by omega⟩ := by
  have h : codes (BitVec.ofNat 32 (4 * j.val)) x (slab j x) (ix2 p l) = Row.clamp (slab j x (ix2 p l)
      * spread (BitVec.ofNat 32 (4 * j.val)) (half (invOf (F := Ideal) (field (scaled x)))) (ix2 p l)) := rfl
  have e : (⟨4 * j.val + l.val / 32, by omega⟩ : Fin 40) = Row.groupOf ⟨128 * j.val + l.val, by omega⟩ := by
    apply Fin.ext
    show 4 * j.val + l.val / 32 = (128 * j.val + l.val) / 32
    omega
  rw [h, spread_apply, slab_apply, inv_apply x p ⟨4 * j.val + l.val / 32, by omega⟩, e]
  rfl

/-- The weighted activations of slab `j` at an index. -/
theorem weighted_apply (x : FVec Ideal S64x1280 .bf16) (j : Fin 10) (p : Fin 64) (l : Fin 128) :
    weighted (BitVec.ofNat 32 (4 * j.val)) x (slab j x) (ix2 p l) = Row.weighted (row x p) ⟨128 * j.val + l.val, by omega⟩ := by
  have h : weighted (BitVec.ofNat 32 (4 * j.val)) x (slab j x) (ix2 p l) = codes (BitVec.ofNat 32 (4 * j.val)) x (slab j x) (ix2 p l)
      * spread (BitVec.ofNat 32 (4 * j.val)) (half (scale x)) (ix2 p l) := rfl
  have e : (⟨4 * j.val + l.val / 32, by omega⟩ : Fin 40) = Row.groupOf ⟨128 * j.val + l.val, by omega⟩ := by
    apply Fin.ext
    show 4 * j.val + l.val / 32 = (128 * j.val + l.val) / 32
    omega
  rw [h, spread_apply, codes_apply, scale_apply x p ⟨4 * j.val + l.val / 32, by omega⟩, e]
  rfl

end Cert.KernelIdeal.Quant

end
-- ==== Proof.Block.lean ====
/- What one grid point's stores leave in its blocks: each row's scales, codes and weighted activations, and its product
   with the rows of the decoded weights. -/
module

public import proofs.«01_k».proof.Proof.Chunk
public import Idealize.ShloMosaic.Lib.MatmulPlain
public import Idealize.ShloMosaic.Lib.Pipeline.Value
public import Idealize.ShloMosaic.Lib.Ring

@[expose] public section

noncomputable section

namespace Cert.KernelIdeal.Quant

open Idealize.ShloMosaic Cert.KernelIdeal Cert.KernelIdeal.Gen Idealize.ShloMosaic.TcCoe

/-- An index of a matrix is its two coordinates. -/
theorem ix2_eta {a b : ℕ} (x : (⟨2, ![a, b]⟩ : Shape).Idx) : x = ix2 (x 0) (x 1) := by
  funext i
  match i with
  | ⟨0, _⟩ => rfl
  | ⟨1, _⟩ => rfl

/-- A rectangle's index placed in the matrix. -/
theorem emb_ix2 {m n a b o0 o1 : ℕ} (h : ∀ i : Fin 2, (![o0, o1] : Fin 2 → ℕ) i + (![a, b] : Fin 2 → ℕ) i ≤ (![m, n] : Fin 2 → ℕ) i)
    (p : Fin a) (q : Fin b) (h0 : o0 + p.val < m) (h1 : o1 + q.val < n) :
    (Rect.unit (s := ⟨2, ![m, n]⟩) ![o0, o1] ![a, b] h).idx (ix2 p q) = ix2 ⟨o0 + p.val, h0⟩ ⟨o1 + q.val, h1⟩ := by
  funext i
  apply Fin.ext
  match i with
  | ⟨0, _⟩ => exact congrArg (o0 + ·) (Nat.one_mul _)
  | ⟨1, _⟩ => exact congrArg (o1 + ·) (Nat.one_mul _)

/-- Row `q` of a block. -/
def rowOf {n : ℕ} (x : FVec Ideal ⟨2, ![n, 1280]⟩ .bf16) (q : Fin n) : Row.Row := fun d => x (ix2 q d)

section
variable (arg1 : Memref sig .tc .vmem S512x1280 .bf16) (harg1 : arg1.IsWhole) (x : Vec Ideal S512x1280 .bf16)

/-- A step's row is the block's. -/
theorem row_chunk (r : Fin 8) (p : Fin 64) :
    row (chunkAt arg1 harg1 x r) p = rowOf x ⟨64 * r.val + p.val, by omega⟩ := by
  funext d
  unfold row chunkAt
  rw [View.readAt_eq_ld, harg1.read_unread]
  refine congrArg x ((emb_ix2 (by decide +revert) p d (by omega) (by omega)).trans ?_)
  exact congrArg (ix2 _) (Fin.ext (Nat.zero_add _))

/-- The block's scales. -/
def blockScale : Vec Ideal S512x40 .f32 := fun i => Row.scale (rowOf x (i 0)) (i 1)

/-- The block's codes. -/
def blockCode : Vec Ideal S512x1280 .fp8e4m3 := fun i => Row.code (rowOf x (i 0)) (i 1)

/-- The block's weighted activations. -/
def blockX : Vec Ideal S512x1280 .bf16 := fun i => Row.weighted (rowOf x (i 0)) (i 1)

/-- The block's products with the rows of `w`. -/
def blockY (w : Vec Ideal S9088x1280 .bf16) : Vec Ideal S512x9088 .bf16 :=
  fun i => ∑ k : Fin 1280, Row.weighted (rowOf x (i 0)) k * w (ix2 (i 1) k)

/-- The scales stored by 64 rows are the block's scales at the rows they are stored to. -/
theorem pieceScale_apply (r : Fin 8) (y : (pieceScale arg1 harg1 x r).1.shape.Idx) :
    (pieceScale arg1 harg1 x r).2 y = blockScale x ((pieceScale arg1 harg1 x r).1.emb y) := by
  obtain ⟨p, g, rfl⟩ : ∃ (p : Fin 64) (g : Fin 40), y = ix2 p g := ⟨_, _, ix2_eta (a := 64) (b := 40) y⟩
  have e : (pieceScale arg1 harg1 x r).1.emb (ix2 p g) = ix2 (⟨64 * r.val + p.val, by omega⟩ : Fin 512) g :=
    (emb_ix2 (by decide +revert) p g (by omega) (by omega)).trans (congrArg (ix2 _) (Fin.ext (Nat.zero_add _)))
  rw [e]
  show extractStridedSlice S64x40 ![0, 0] (scale (chunkAt arg1 harg1 x r)) Facts₀.slices_S64x128_o0_0_S64x40 (ix2 p g) = _
  rw [extractStridedSlice_apply _ _ _ _ (ix2 p (⟨g.val, by omega⟩ : Fin 128)) (fun a => by
    match a with
    | ⟨0, _⟩ => exact (Nat.zero_add _).symm
    | ⟨1, _⟩ => exact (Nat.zero_add _).symm), scale_apply, row_chunk]
  rfl

/-- The codes stored by 64 rows and 128 lanes are the block's codes where they are stored. -/
theorem pieceCode_apply (rj : Fin 8 × Fin 10) (y : (pieceCode arg1 harg1 x rj).1.shape.Idx) :
    (pieceCode arg1 harg1 x rj).2 y = blockCode x ((pieceCode arg1 harg1 x rj).1.emb y) := by
  obtain ⟨p, l, rfl⟩ : ∃ (p : Fin 64) (l : Fin 128), y = ix2 p l := ⟨_, _, ix2_eta (a := 64) (b := 128) y⟩
  have e : (pieceCode arg1 harg1 x rj).1.emb (ix2 p l) = ix2 (⟨64 * rj.1.val + p.val, by omega⟩ : Fin 512) ⟨128 * rj.2.val + l.val, by omega⟩ :=
    emb_ix2 (by obtain ⟨r, j⟩ := rj; decide +revert) p l (by omega) (by omega)
  rw [e]
  refine (codes_apply (chunkAt arg1 harg1 x rj.1) rj.2 p l).trans ?_
  rw [row_chunk]
  rfl

/-- The scaled codes kept by 64 rows and 128 lanes are the block's scaled codes where they are kept. -/
theorem pieceX_apply (rj : Fin 8 × Fin 10) (y : (pieceX arg1 harg1 x rj).1.shape.Idx) :
    (pieceX arg1 harg1 x rj).2 y = blockX x ((pieceX arg1 harg1 x rj).1.emb y) := by
  obtain ⟨p, l, rfl⟩ : ∃ (p : Fin 64) (l : Fin 128), y = ix2 p l := ⟨_, _, ix2_eta (a := 64) (b := 128) y⟩
  have e : (pieceX arg1 harg1 x rj).1.emb (ix2 p l) = ix2 (⟨64 * rj.1.val + p.val, by omega⟩ : Fin 512) ⟨128 * rj.2.val + l.val, by omega⟩ :=
    emb_ix2 (by obtain ⟨r, j⟩ := rj; decide +revert) p l (by omega) (by omega)
  rw [e]
  refine (congrFun (shapeCast_id (weighted (BitVec.ofNat 32 (4 * rj.2.val)) (chunkAt arg1 harg1 x rj.1) (slab rj.2 (chunkAt arg1 harg1 x rj.1))) Facts₀.shapeCasts_S64x128_S64x128) (ix2 p l)).trans ?_
  refine (weighted_apply (chunkAt arg1 harg1 x rj.1) rj.2 p l).trans ?_
  rw [row_chunk]
  rfl

/-- The weighted activations' pieces cover their block. -/
theorem cover_X : ∀ y : S512x1280.Idx, ∃ p ∈ tiles.map (pieceX arg1 harg1 x), y ∈ p.1.set :=
  View.cover_of_tiledL _ S64x128.size (by sl_kernel_rfl)

/-- What the products load of the weighted activations. -/
theorem xwAt_eq (arg8 : Memref sig .tc .vmem S512x1280 .bf16) : xwAt arg1 harg1 arg8 x = blockX x := by
  unfold xwAt
  rw [View.readCov_eq_canon _ _ _ (fun j => cover_X arg1 harg1 x _)]
  funext j
  rw [View.canon_apply_of_pieces (blockX x) _ (by
    intro p hp
    obtain ⟨rj, _, rfl⟩ := List.mem_map.1 hp
    exact pieceX_apply arg1 harg1 x rj) _ (cover_X arg1 harg1 x _)]
  refine congrArg (blockX x) ?_
  funext a
  apply Fin.ext
  match a with
  | ⟨0, _⟩ => exact (Nat.zero_add _).trans (Nat.one_mul _)
  | ⟨1, _⟩ => exact (Nat.zero_add _).trans (Nat.one_mul _)

end

/-- The word of all zeros is the number 0. -/
theorem zero_word : Ideal.ofBits .f32 0x00000000#32 = 0 := by simp [Ideal.ofBits, Ideal.ieee]

section
variable (x : Vec Ideal S512x1280 .bf16) (w0 : Vec Ideal S9088x1280 .bf16)
  (w : (R : LoadRect S9088x1280) → R.shape.Idx → Elt Ideal .bf16) (hw : ∀ R j, w R j = w0 (R.idx j))
include hw

/-- The last, narrower piece of the product is the block's product where it is stored. -/
theorem pieceYLast_apply (y : (pieceYLast (blockX x) w).1.shape.Idx) :
    (pieceYLast (blockX x) w).2 y = blockY x w0 ((pieceYLast (blockX x) w).1.emb y) := by
  obtain ⟨p, l, rfl⟩ : ∃ (p : Fin 512) (l : Fin 128), y = ix2 p l := ⟨_, _, ix2_eta (a := 512) (b := 128) y⟩
  have e : (pieceYLast (blockX x) w).1.emb (ix2 p l) = ix2 p (⟨8960 + l.val, by omega⟩ : Fin 9088) :=
    (emb_ix2 (by decide) p l (by omega) (by omega)).trans (congrArg (fun a => ix2 a _) (Fin.ext (Nat.zero_add _)))
  rw [e]
  refine (Ideal.matmul_transposedRhs_apply (M := 512) (K := 1280) (N := 128) (φ₁ := .bf16) (φ₂ := .bf16) none (blockX x) _ _ p l).trans ?_
  refine (congrArg (· + _) zero_word).trans ((zero_add _).trans (Finset.sum_congr rfl fun k _ => ?_))
  rw [hw]
  refine congrArg (Row.weighted (rowOf x p) k * w0 ·) ?_
  exact (emb_ix2 (m := 9088) (n := 1280) (by decide) l k (by omega) (by omega)).trans (congrArg (ix2 _) (Fin.ext (Nat.zero_add _)))

/-- Each of the 35 full pieces of the product is the block's product where it is stored. -/
theorem pieceY_apply (n : Fin 35) (y : (pieceY (blockX x) w n).1.shape.Idx) :
    (pieceY (blockX x) w n).2 y = blockY x w0 ((pieceY (blockX x) w n).1.emb y) := by
  obtain ⟨p, l, rfl⟩ : ∃ (p : Fin 512) (l : Fin 256), y = ix2 p l := ⟨_, _, ix2_eta (a := 512) (b := 256) y⟩
  have e : (pieceY (blockX x) w n).1.emb (ix2 p l) = ix2 p (⟨256 * n.val + l.val, by omega⟩ : Fin 9088) :=
    (emb_ix2 (by clear * - n; decide +revert) p l (by omega) (by omega)).trans (congrArg (fun a => ix2 a _) (Fin.ext (Nat.zero_add _)))
  rw [e]
  refine (Ideal.matmul_transposedRhs_apply (M := 512) (K := 1280) (N := 256) (φ₁ := .bf16) (φ₂ := .bf16) none (blockX x) _ _ p l).trans ?_
  refine (congrArg (· + _) zero_word).trans ((zero_add _).trans (Finset.sum_congr rfl fun k _ => ?_))
  rw [hw]
  refine congrArg (Row.weighted (rowOf x p) k * w0 ·) ?_
  exact (emb_ix2 (m := 9088) (n := 1280) (by clear * - n; decide +revert) l k (by omega) (by omega)).trans (congrArg (ix2 _) (Fin.ext (Nat.zero_add _)))

/-- Every piece of the product is the product's. -/
theorem piecesY_apply : ∀ p ∈ piecesY (blockX x) w, ∀ y : p.1.shape.Idx, p.2 y = blockY x w0 (p.1.emb y) := by
  intro pc hp
  rcases List.mem_cons.1 hp with rfl | hp
  · exact pieceYLast_apply x w0 w hw
  · obtain ⟨n, _, rfl⟩ := List.mem_map.1 hp
    exact pieceY_apply x w0 w hw n
end

section
variable (c : Dev nD) (i : grid0.Coords) (arg1 : Memref sig .tc .vmem S512x1280 .bf16) (harg1 : arg1.IsWhole)
  (arg2 : Memref sig .tc .vmem S4544x1280 .i8) (harg2 : arg2.IsWhole) (arg3 : Memref sig .tc .vmem S9088x128 .i8)
  (harg3 : arg3.IsWhole) (arg4 : Memref sig .tc .vmem S512x9088 .bf16) (harg4 : arg4.IsWhole)
  (arg5 : Memref sig .tc .vmem S512x1280 .fp8e4m3) (harg5 : arg5.IsWhole) (arg6 : Memref sig .tc .vmem S512x40 .f32)
  (harg6 : arg6.IsWhole) (arg7 : Memref sig .tc .vmem S9088x1280 .bf16) (harg7 : arg7.IsWhole)
  (arg8 : Memref sig .tc .vmem S512x1280 .bf16) (harg8 : arg8.IsWhole)
  (x0 : Vec Ideal S512x1280 .bf16) (x1 : Vec Ideal S4544x1280 .i8) (x2 : Vec Ideal S9088x128 .i8) (xs0 : Vec Ideal S9088x1280 .bf16)

/-- A later point leaves its block's scales, -/
theorem outB_5 (hc0 : ¬cond0_0 i) :
    out0_B_5 c i arg1 harg1 arg2 harg2 arg3 harg3 arg4 harg4 arg5 harg5 arg6 harg6 arg7 harg7 arg8 harg8 hc0 x0 x1 x2 xs0
      = blockScale x0 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 xs0)]
  funext y
  refine View.canon_apply_of_pieces (blockScale x0) _ ?_ y (cover0_B_5 c i arg1 harg1 arg2 harg2 arg3 harg3 arg4 harg4 arg5 harg5 arg6 harg6 arg7 harg7 arg8 harg8 hc0 x0 x1 x2 xs0 y)
  rw [listB_5]
  intro p hp
  obtain ⟨r, _, rfl⟩ := List.mem_map.1 hp
  exact pieceScale_apply arg1 harg1 x0 r

/-- its codes, -/
theorem outB_4 (hc0 : ¬cond0_0 i) :
    out0_B_4 c i arg1 harg1 arg2 harg2 arg3 harg3 arg4 harg4 arg5 harg5 arg6 harg6 arg7 harg7 arg8 harg8 hc0 x0 x1 x2 xs0
      = blockCode x0 := by
  unfold out0_B_4
  rw [View.read_writes_eq_canon _ _ _ (cover0_B_4 c i arg1 harg1 arg2 harg2 arg3 harg3 arg4 harg4 arg5 harg5 arg6 harg6 arg7 harg7 arg8 harg8 hc0 x0 x1 x2 xs0)]
  funext y
  refine View.canon_apply_of_pieces (blockCode x0) _ ?_ y (cover0_B_4 c i arg1 harg1 arg2 harg2 arg3 harg3 arg4 harg4 arg5 harg5 arg6 harg6 arg7 harg7 arg8 harg8 hc0 x0 x1 x2 xs0 y)
  rw [listB_4]
  intro p hp
  obtain ⟨rj, _, rfl⟩ := List.mem_map.1 hp
  exact pieceCode_apply arg1 harg1 x0 rj

/-- and its products with the weights it finds decoded. -/
theorem outB_3 (hc0 : ¬cond0_0 i) :
    out0_B_3 c i arg1 harg1 arg2 harg2 arg3 harg3 arg4 harg4 arg5 harg5 arg6 harg6 arg7 harg7 arg8 harg8 hc0 x0 x1 x2 xs0
      = blockY x0 xs0 := by
  unfold out0_B_3
  rw [View.read_writes_eq_canon _ _ _ (cover0_B_3 c i arg1 harg1 arg2 harg2 arg3 harg3 arg4 harg4 arg5 harg5 arg6 harg6 arg7 harg7 arg8 harg8 hc0 x0 x1 x2 xs0)]
  funext y
  refine View.canon_apply_of_pieces (blockY x0 xs0) _ ?_ y (cover0_B_3 c i arg1 harg1 arg2 harg2 arg3 harg3 arg4 harg4 arg5 harg5 arg6 harg6 arg7 harg7 arg8 harg8 hc0 x0 x1 x2 xs0 y)
  rw [listB_3, xwAt_eq]
  refine piecesY_apply x0 xs0 _ fun R j => ?_
  show arg7.view.read (Elt Ideal) (harg7.unread xs0) (R.idx j) = _
  rw [harg7.read_unread]

/-- The first point leaves its block's scales, -/
theorem outA_5 (hc0 : cond0_0 i) :
    out0_A_5 c i arg1 harg1 arg2 harg2 arg3 harg3 arg4 harg4 arg5 harg5 arg6 harg6 arg7 harg7 arg8 harg8 hc0 x0 x1 x2
      = blockScale x0 := by
  unfold out0_A_5
  rw [View.read_writes_eq_canon _ _ _ (cover0_A_5 c i arg1 harg1 arg2 harg2 arg3 harg3 arg4 harg4 arg5 harg5 arg6 harg6 arg7 harg7 arg8 harg8 hc0 x0 x1 x2)]
  funext y
  refine View.canon_apply_of_pieces (blockScale x0) _ ?_ y (cover0_A_5 c i arg1 harg1 arg2 harg2 arg3 harg3 arg4 harg4 arg5 harg5 arg6 harg6 arg7 harg7 arg8 harg8 hc0 x0 x1 x2 y)
  rw [listA_5]
  intro p hp
  obtain ⟨r, _, rfl⟩ := List.mem_map.1 hp
  exact pieceScale_apply arg1 harg1 x0 r

/-- its codes, -/
theorem outA_4 (hc0 : cond0_0 i) :
    out0_A_4 c i arg1 harg1 arg2 harg2 arg3 harg3 arg4 harg4 arg5 harg5 arg6 harg6 arg7 harg7 arg8 harg8 hc0 x0 x1 x2
      = blockCode x0 := by
  unfold out0_A_4
  rw [View.read_writes_eq_canon _ _ _ (cover0_A_4 c i arg1 harg1 arg2 harg2 arg3 harg3 arg4 harg4 arg5 harg5 arg6 harg6 arg7 harg7 arg8 harg8 hc0 x0 x1 x2)]
  funext y
  refine View.canon_apply_of_pieces (blockCode x0) _ ?_ y (cover0_A_4 c i arg1 harg1 arg2 harg2 arg3 harg3 arg4 harg4 arg5 harg5 arg6 harg6 arg7 harg7 arg8 harg8 hc0 x0 x1 x2 y)
  rw [listA_4]
  intro p hp
  obtain ⟨rj, _, rfl⟩ := List.mem_map.1 hp
  exact pieceCode_apply arg1 harg1 x0 rj

/-- and its products with the weights it has decoded. -/
theorem outA_3 (hc0 : cond0_0 i) :
    out0_A_3 c i arg1 harg1 arg2 harg2 arg3 harg3 arg4 harg4 arg5 harg5 arg6 harg6 arg7 harg7 arg8 harg8 hc0 x0 x1 x2
      = blockY x0 (sout0_A_0 c i arg1 harg1 arg2 harg2 arg3 harg3 arg4 harg4 arg5 harg5 arg6 harg6 arg7 harg7 arg8 harg8 hc0 x0 x1 x2) := by
  unfold out0_A_3
  rw [View.read_writes_eq_canon _ _ _ (cover0_A_3 c i arg1 harg1 arg2 harg2 arg3 harg3 arg4 harg4 arg5 harg5 arg6 harg6 arg7 harg7 arg8 harg8 hc0 x0 x1 x2)]
  funext y
  refine View.canon_apply_of_pieces (blockY x0 _) _ ?_ y (cover0_A_3 c i arg1 harg1 arg2 harg2 arg3 harg3 arg4 harg4 arg5 harg5 arg6 harg6 arg7 harg7 arg8 harg8 hc0 x0 x1 x2 y)
  rw [listA_3, xwAt_eq]
  refine piecesY_apply x0 _ _ fun R j => ?_
  unfold sout0_A_0
  rw [View.readCov_eq_canon _ _ _ (fun j => scover0_A_0 c i arg1 harg1 arg2 harg2 arg3 harg3 arg4 harg4 arg5 harg5 arg6 harg6 arg7 harg7 arg8 harg8 hc0 x0 x1 x2 _),
    View.read_writes_eq_canon _ _ _ (scover0_A_0 c i arg1 harg1 arg2 harg2 arg3 harg3 arg4 harg4 arg5 harg5 arg6 harg6 arg7 harg7 arg8 harg8 hc0 x0 x1 x2)]
end

end Cert.KernelIdeal.Quant

end
-- ==== Proof.Weights.lean ====
/- What the decoded weights hold: at row `n` and lane `k` the four-bit number there times the power of two of its group. -/
module

public import proofs.«01_k».proof.Proof.Decode
public import proofs.«01_k».proof.Proof.Nibble
public import proofs.«01_k».proof.Proof.Block

@[expose] public section

noncomputable section

namespace Cert.KernelIdeal.Decode

open Idealize.ShloMosaic Cert.KernelIdeal Cert.KernelIdeal.Gen Cert.KernelIdeal.Quant Idealize.ShloMosaic.TcCoe

/-- A word's fields are its bytes' fields. -/
theorem fields_apply (h : Fin 2) (u : IVec S16x1280 32) (i : S16x1280.Idx) : fields h u i = Nibble.field32 h (u i) := by
  match h with
  | 0 => rfl
  | 1 => rfl

/-- Bit `q` of byte `p % 4` of the words' rows, read back as bytes. -/
theorem bytes_bit (u : IVec S16x1280 32) (p : Fin 64) (l : Fin 1280) (q : Nat) (hq : q < 8) :
    (bitcast S64x1280 8 u Facts₀.bitcasts_S16x1280_w32_S64x1280_w8 (ix2 p l)).getLsbD q
      = (u (ix2 (⟨p.val / 4, by omega⟩ : Fin 16) l)).getLsbD (8 * (p.val % 4) + q) := by
  rw [bitcast_getLsbD u _ _ q hq (by decide)]
  have hr : S64x1280.row (ix2 p l) = p.val := rfl
  have e1 : (S64x1280.row (ix2 p l) * 8 + q) / 32 = p.val / 4 := by rw [hr]; omega
  have e2 : (S64x1280.row (ix2 p l) * 8 + q) % 32 = 8 * (p.val % 4) + q := by rw [hr]; omega
  rw [e2]
  congr 2
  funext c
  match c with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- The four-bit values over sixty-four, at an index. -/
theorem values_apply (h : Fin 2) (v : Vec Ideal S64x1280 .i8) (p : Fin 64) (l : Fin 1280) :
    values (F := Ideal) h v (ix2 p l) = Ideal.ofBits .fp8e4m3 (Nibble.field8 h (v (ix2 p l))) := by
  show Ideal.ofBits .fp8e4m3 (bitcast S64x1280 8 (fields h (bitcast S16x1280 32 v Facts₀.bitcasts_S64x1280_w8_S16x1280_w32))
    Facts₀.bitcasts_S16x1280_w32_S64x1280_w8 (ix2 p l)) = _
  refine congrArg (Ideal.ofBits .fp8e4m3) (BitVec.eq_of_getLsbD_eq fun q hq => ?_)
  rw [bytes_bit _ p l q hq, fields_apply]
  refine Nibble.field32_byte h _ (v (ix2 p l)) (p.val % 4) (Nat.mod_lt _ (by decide)) (fun q hq => ?_) q hq
  refine (bitcast_8_32_getLsbD_ix2 (R := 64) (r := 16) (n := 1280) v _ (⟨p.val / 4, by omega⟩ : Fin 16) l (8 * (p.val % 4) + q) (by omega) p
    (by show p.val = 4 * (p.val / 4) + _; omega)).trans ?_
  have e : (8 * (p.val % 4) + q) % 8 = q := by omega
  rw [e]
  rfl

/-- A weight: the four-bit number of half `h` of the packed byte, times the power of two of the scale's byte. -/
def weightOf (h : Fin 2) (b s : BitVec 8) : EReal := ((Nibble.e2m1 (Nibble.nibble h b) : ℝ) : EReal) * Exponent.power (s.setWidth 32)

/-- A weight scale is the power its byte says. -/
theorem scales_apply (s : Vec Ideal S64x128 .i8) (i : S64x128.Idx) :
    scales (F := Ideal) s i = Exponent.power ((s i : BitVec 8).setWidth 32) := by
  unfold scales
  rw [shapeCast_id]
  rfl

/-- A slab of decoded weights, at an index. -/
theorem decoded_apply (h : Fin 2) (j : Fin 10) (v : Vec Ideal S64x1280 .i8) (s : Vec Ideal S64x128 .i8) (p : Fin 64) (l : Fin 128) :
    decoded (F := Ideal) h j v s (ix2 p l) = weightOf h (v (ix2 p (⟨128 * j.val + l.val, by omega⟩ : Fin 1280)))
      (s (ix2 p (⟨4 * j.val + l.val / 32, by omega⟩ : Fin 128))) := by
  have hv : extractStridedSlice (s := S64x1280) S64x128 (![0, 128 * j.val] : Fin 2 → Nat) (values (F := Ideal) h v) (slices_slab j) (ix2 p l)
      = values (F := Ideal) h v (ix2 p (⟨128 * j.val + l.val, by omega⟩ : Fin 1280)) :=
    extractStridedSlice_apply _ _ _ _ _ (fun a => by
      match a with
      | ⟨0, _⟩ => exact (Nat.zero_add _).symm
      | ⟨1, _⟩ => rfl)
  have hs : spread (BitVec.ofNat 32 (4 * j.val)) (scales (F := Ideal) s) (ix2 p l) = scales (F := Ideal) s (ix2 p (⟨4 * j.val + l.val / 32, by omega⟩ : Fin 128)) :=
    gather_apply (scales (F := Ideal) s) _ p l ⟨4 * j.val + l.val / 32, by omega⟩ (spread_lane p j l)
  show extractStridedSlice (s := S64x1280) S64x128 (![0, 128 * j.val] : Fin 2 → Nat) (values (F := Ideal) h v) (slices_slab j) (ix2 p l)
    * Ideal.ofBits .bf16 0x4280#16 * spread (BitVec.ofNat 32 (4 * j.val)) (scales (F := Ideal) s) (ix2 p l) = _
  rw [hv, hs, values_apply, scales_apply, Nibble.field8_value]
  rfl

/-- The decoded weights as one array. -/
def weights (x1 : Vec Ideal S4544x1280 .i8) (x2 : Vec Ideal S9088x128 .i8) : Vec Ideal S9088x1280 .bf16 := fun i =>
  weightOf (⟨(i 0).val / 4544, Nat.div_lt_of_lt_mul (i 0).isLt⟩)
    (x1 (ix2 (⟨(i 0).val % 4544, Nat.mod_lt _ (by decide)⟩ : Fin 4544) (i 1)))
    (x2 (ix2 (i 0) (⟨(i 1).val / 32, by have h : (i 1).val < 1280 := (i 1).isLt; omega⟩ : Fin 128)))

section
variable (arg2 : Memref sig .tc .vmem S4544x1280 .i8) (harg2 : arg2.IsWhole) (arg3 : Memref sig .tc .vmem S9088x128 .i8)
  (harg3 : arg3.IsWhole) (x1 : Vec Ideal S4544x1280 .i8) (x2 : Vec Ideal S9088x128 .i8)

/-- The decoding loop has 71 trips. -/
theorem trips_lt : ∀ k : Fin k0_t1_loop.trips, k.val < 71 := by decide +kernel

/-- A rectangle's index placed in the matrix, its offsets known by an equation. -/
theorem emb_off {m n a b o0 o1 : ℕ} (off : Fin 2 → ℕ) (e : off = ![o0, o1])
    (h : ∀ i : Fin 2, off i + (![a, b] : Fin 2 → ℕ) i ≤ (![m, n] : Fin 2 → ℕ) i) (p : Fin a) (q : Fin b) (h0 : o0 + p.val < m) (h1 : o1 + q.val < n) :
    (Rect.unit (s := ⟨2, ![m, n]⟩) off ![a, b] h).idx (ix2 p q) = ix2 ⟨o0 + p.val, h0⟩ ⟨o1 + q.val, h1⟩ := by
  subst e
  exact emb_ix2 h p q h0 h1

/-- The packed rows of trip `k`. -/
theorem packedAt_apply (k : Fin k0_t1_loop.trips) (p : Fin 64) (l : Fin 1280) :
    packedAt arg2 harg2 x1 k (ix2 p l) = x1 (ix2 (⟨64 * k.val + p.val, by have := trips_lt k; omega⟩ : Fin 4544) l) := by
  have hk := trips_lt k
  unfold packedAt
  rw [View.readAt_eq_ld, harg2.read_unread]
  refine congrArg x1 ((emb_off _ (off1_eq k) (off1_inb k) p l (by omega) (by omega)).trans ?_)
  exact congrArg (ix2 _) (Fin.ext (Nat.zero_add _))

/-- The scales' rows of trip `k` and half `h`. -/
theorem scalesAt_apply (k : Fin k0_t1_loop.trips) (h : Fin 2) (p : Fin 64) (l : Fin 128) :
    scalesAt arg3 harg3 x2 k h (ix2 p l) = x2 (ix2 (⟨4544 * h.val + 64 * k.val + p.val, by have := trips_lt k; omega⟩ : Fin 9088) l) := by
  have hk := trips_lt k
  unfold scalesAt
  rw [View.readAt_eq_ld, harg3.read_unread]
  refine congrArg x2 ((emb_off _ (off2_eq k h) (off2_inb k h) p l (by omega) (by omega)).trans ?_)
  exact congrArg (ix2 _) (Fin.ext (Nat.zero_add _))

/-- Trip `k` writes half `h`, slab `j` at row `4544 h + 64 k` and lane `128 j`. -/
theorem offAt_eq (k : Fin k0_t1_loop.trips) (h : Fin 2) (j : Fin 10) : offAt k h j = ![4544 * h.val + 64 * k.val, 128 * j.val] := by
  unfold offAt
  rw [off2_eq]
  rfl

/-- What a trip stores is the decoded weights'. -/
theorem piece_apply (k : Fin k0_t1_loop.trips) (hj : Fin 2 × Fin 10) (y : (piece arg2 harg2 arg3 harg3 x1 x2 k hj).1.shape.Idx) :
    (piece arg2 harg2 arg3 harg3 x1 x2 k hj).2 y = weights x1 x2 ((piece arg2 harg2 arg3 harg3 x1 x2 k hj).1.emb y) := by
  have hk := trips_lt k
  obtain ⟨h, j⟩ := hj
  obtain ⟨p, l, rfl⟩ : ∃ (p : Fin 64) (l : Fin 128), y = ix2 p l := ⟨_, _, ix2_eta (a := 64) (b := 128) y⟩
  have e : (piece arg2 harg2 arg3 harg3 x1 x2 k (h, j)).1.emb (ix2 p l)
      = ix2 (⟨4544 * h.val + 64 * k.val + p.val, by omega⟩ : Fin 9088) (⟨128 * j.val + l.val, by omega⟩ : Fin 1280) :=
    emb_off _ (offAt_eq k h j) (offAt_inb k h j) p l (by omega) (by omega)
  rw [e]
  refine (congrFun (shapeCast_id (decoded h j (packedAt arg2 harg2 x1 k) (scalesAt arg3 harg3 x2 k h)) Facts₀.shapeCasts_S64x128_S64x128) (ix2 p l)).trans ?_
  rw [decoded_apply, packedAt_apply, scalesAt_apply]
  have e0 : (4544 * h.val + 64 * k.val + p.val) / 4544 = h.val := by omega
  have e1 : (4544 * h.val + 64 * k.val + p.val) % 4544 = 64 * k.val + p.val := by omega
  have e2 : (128 * j.val + l.val) / 32 = 4 * j.val + l.val / 32 := by omega
  show _ = weightOf ⟨(4544 * h.val + 64 * k.val + p.val) / 4544, _⟩ (x1 (ix2 ⟨(4544 * h.val + 64 * k.val + p.val) % 4544, _⟩ _))
    (x2 (ix2 _ ⟨(128 * j.val + l.val) / 32, _⟩))
  congr 1
  · exact Fin.ext e0.symm
  · exact congrArg x1 (congrArg (fun a => ix2 a _) (Fin.ext e1.symm))
  · exact congrArg x2 (congrArg (ix2 _) (Fin.ext e2.symm))

/-- Every store of the loop is the decoded weights'. -/
theorem pieces_apply : ∀ k : ℕ, ∀ p ∈ pieces arg2 harg2 arg3 harg3 x1 x2 k, ∀ y : p.1.shape.Idx, p.2 y = weights x1 x2 (p.1.emb y)
  | 0, p, hp => absurd hp List.not_mem_nil
  | k + 1, p, hp => by
    unfold pieces at hp
    split at hp
    · rcases List.mem_append.1 hp with hp | hp
      · obtain ⟨hj, _, rfl⟩ := List.mem_map.1 hp
        exact piece_apply arg2 harg2 arg3 harg3 x1 x2 _ hj
      · exact pieces_apply k p hp
    · exact pieces_apply k p hp
end

section
variable (c : Dev nD) (i : grid0.Coords) (arg1 : Memref sig .tc .vmem S512x1280 .bf16) (harg1 : arg1.IsWhole)
  (arg2 : Memref sig .tc .vmem S4544x1280 .i8) (harg2 : arg2.IsWhole) (arg3 : Memref sig .tc .vmem S9088x128 .i8)
  (harg3 : arg3.IsWhole) (arg4 : Memref sig .tc .vmem S512x9088 .bf16) (harg4 : arg4.IsWhole)
  (arg5 : Memref sig .tc .vmem S512x1280 .fp8e4m3) (harg5 : arg5.IsWhole) (arg6 : Memref sig .tc .vmem S512x40 .f32)
  (harg6 : arg6.IsWhole) (arg7 : Memref sig .tc .vmem S9088x1280 .bf16) (harg7 : arg7.IsWhole)
  (arg8 : Memref sig .tc .vmem S512x1280 .bf16) (harg8 : arg8.IsWhole)
  (x0 : Vec Ideal S512x1280 .bf16) (x1 : Vec Ideal S4544x1280 .i8) (x2 : Vec Ideal S9088x128 .i8)

/-- What the first point leaves in the scratch: the decoded weights. -/
theorem sout_eq (hc0 : cond0_0 i) :
    sout0_A_0 c i arg1 harg1 arg2 harg2 arg3 harg3 arg4 harg4 arg5 harg5 arg6 harg6 arg7 harg7 arg8 harg8 hc0 x0 x1 x2 = weights x1 x2 := by
  unfold sout0_A_0
  have hcov := scover0_A_0 c i arg1 harg1 arg2 harg2 arg3 harg3 arg4 harg4 arg5 harg5 arg6 harg6 arg7 harg7 arg8 harg8 hc0 x0 x1 x2
  rw [listA] at hcov ⊢
  rw [View.read_writes_eq_canon _ _ _ hcov]
  funext y
  exact View.canon_apply_of_pieces (weights x1 x2) _ (pieces_apply arg2 harg2 arg3 harg3 x1 x2 71) y (hcov y)
end

end Cert.KernelIdeal.Decode
-- ==== Proof.Result.lean ====
/- The three results as functions of the arguments: a row's scales, its codes, and its product with the rows of the
   decoded weights. -/
module

public import proofs.«01_k».proof.Proof.Weights

@[expose] public section

noncomputable section

namespace Cert.Result

open Idealize.ShloMosaic Cert.KernelIdeal.Quant Cert.KernelIdeal.Decode

variable (x : FVec Ideal ⟨2, ![32768, 1280]⟩ .bf16) (w : IVec ⟨2, ![4544, 1280]⟩ 8) (s : IVec ⟨2, ![9088, 40]⟩ 8)

/-- The scales: a power of two per group of 32 lanes. -/
def scales : FVec Ideal ⟨2, ![32768, 40]⟩ .f32 := fun i => Row.scale (rowOf x (i 0)) (i 1)

/-- The codes: each lane over its group's scale, between -448 and 448. -/
def codes : FVec Ideal ⟨2, ![32768, 1280]⟩ .fp8e4m3 := fun i => Row.code (rowOf x (i 0)) (i 1)

/-- The decoded weight at row `n` and lane `k`: rows below 4544 are the low nibbles, the others the high ones. -/
def weight (n : Fin 9088) (k : Fin 1280) : EReal :=
  weightOf ⟨n.val / 4544, by omega⟩ (w (ix2 ⟨n.val % 4544, by omega⟩ k)) (s (ix2 n ⟨k.val / 32, by omega⟩))

/-- The product of the scaled codes with the decoded weights. -/
def product : FVec Ideal ⟨2, ![32768, 9088]⟩ .bf16 :=
  fun i => ∑ k : Fin 1280, Row.weighted (rowOf x (i 0)) k * weight w s (i 1) k

end Cert.Result

end
-- ==== Proof.Arrays.lean ====
/- What the kernel's three result arrays hold, as functions of its arguments: the decoded weights are the same at every
   grid point, and a point's blocks are the rows of the whole arrays. -/
module

public import proofs.«01_k».proof.Proof.Result
public import proofs.«01_k».proof.Proof.Gen.KernelIdeal.Value
public import Idealize.ShloMosaic.Lib.KernelVsHost
public import Idealize.ShloMosaic.Lib.StableHlo.RunRead

@[expose] public section

noncomputable section

namespace Cert.KernelIdeal.Arrays

open Idealize Idealize.SL Idealize.ShloMosaic Cert.KernelIdeal Cert.KernelIdeal.Gen Cert.KernelIdeal.Quant Cert.KernelIdeal.Decode
open Idealize.ShloMosaic.TcCoe Cert.KernelIdeal.Value

variable (m : (ℓ : Loc nD τ sig) → Buf (Elt Ideal) ℓ) (c : Dev nD)

/-- The activations as rows. -/
def xs : Vec Ideal S32768x1280 .bf16 :=
  shapeCast S32768x1280 (m ((c : Thread nD τ).loc main_arg0)) shapeCasts_S8x4096x1280_S32768x1280

/-- The packed weights. -/
def ws : Vec Ideal S4544x1280 .i8 := m ((c : Thread nD τ).loc main_arg1)

/-- The weights' exponents. -/
def es : Vec Ideal S9088x40 .i8 := m ((c : Thread nD τ).loc main_arg2)

/-- The exponents with their row filled up to 128 lanes. -/
def esPad : Vec Ideal S9088x128 .i8 :=
  pad S9088x128 ![0, 0] ![0, 88] ![0, 0] (es m c) (trunci 8 (constantI S_ 32 0#32) natLt_8_32)
    pads_S9088x40_S9088x128_000_0880 h_S_

/-- The first operand of the launch is the reshaped activations. -/
theorem V_x : V m c main_v0 = xs m c := by sl_kernel_rfl

/-- The second is the packed weights. -/
theorem V_w : V m c main_arg1 = ws m c := V_main_arg1 m c

/-- The third is the padded exponents. -/
theorem V_e : V m c main_v1 = esPad m c := by sl_kernel_rfl

/-- The padded exponents' first 40 lanes are the exponents. -/
theorem esPad_apply (n : Fin 9088) (g : Fin 40) : esPad m c (ix2 n ⟨g.val, by omega⟩) = es m c (ix2 n g) := by
  refine pad_apply_of_inside _ _ _ _ _ _ _ _ (ix2 n g) fun a => ?_
  match a with
  | ⟨0, _⟩ => show n.val = 0 + n.val * (0 + 1); omega
  | ⟨1, _⟩ => show g.val = 0 + g.val * (0 + 1); omega

/-- Where the windows' blocks lie: the activations' at the point's rows, the two others' at the whole array. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- A point's activations are rows `512 t` on. -/
theorem block_x (t : Fin cfg0.N) (ht : t.val < 64) (p : Fin 512) (d : Fin 1280) :
    iblk m c 0 t (ix2 p d) = xs m c (ix2 ⟨512 * t.val + p.val, by omega⟩ d) := by
  refine Eq.trans ?_ (congrFun (V_x m c) _)
  show V m c main_v0 (((cfg0.win 0).blk t).view.emb (ix2 p d)) = _
  refine congrArg _ (funext fun a => Fin.ext ?_)
  have h := idx_in t
  match a with
  | ⟨0, _⟩ => show win0_0.index t (0 : Fin 2) * 512 + 1 * p.val = 512 * t.val + p.val; omega
  | ⟨1, _⟩ => show win0_0.index t (1 : Fin 2) * 1280 + 1 * d.val = d.val; omega

/-- Every point's packed weights are the whole array. -/
theorem block_w (t : Fin cfg0.N) : iblk m c 1 t = ws m c := by
  refine Eq.trans (funext fun i => ?_) (V_w m c)
  show V m c main_arg1 (((cfg0.win 1).blk t).view.emb i) = _
  refine congrArg _ (funext fun a => Fin.ext ?_)
  have h := idx_in t
  match a with
  | ⟨0, _⟩ => show win0_1.index t (0 : Fin 2) * 4544 + 1 * (i 0).val = (i 0).val; omega
  | ⟨1, _⟩ => show win0_1.index t (1 : Fin 2) * 1280 + 1 * (i 1).val = (i 1).val; omega

/-- Every point's exponents are the whole array. -/
theorem block_e (t : Fin cfg0.N) : iblk m c 2 t = esPad m c := by
  refine Eq.trans (funext fun i => ?_) (V_e m c)
  show V m c main_v1 (((cfg0.win 2).blk t).view.emb i) = _
  refine congrArg _ (funext fun a => Fin.ext ?_)
  have h := idx_in t
  match a with
  | ⟨0, _⟩ => show win0_2.index t (0 : Fin 2) * 9088 + 1 * (i 0).val = (i 0).val; omega
  | ⟨1, _⟩ => show win0_2.index t (1 : Fin 2) * 128 + 1 * (i 1).val = (i 1).val; omega

/-- What is left after a point, in its blocks and in the weights it keeps. -/
def left (t : Fin cfg0.N) : Vec Ideal S512x9088 .bf16 × Vec Ideal S512x1280 .fp8e4m3 × Vec Ideal S512x40 .f32
    × Vec Ideal S9088x1280 .bf16 :=
  (blockY (iblk m c 0 t) (weights (ws m c) (esPad m c)), blockCode (iblk m c 0 t), blockScale (iblk m c 0 t),
    weights (ws m c) (esPad m c))

/-- The first point decodes the weights and computes its block. -/
theorem point_first (t : Fin cfg0.N) (h0 : t.val % 64 = 0)
    (acc : Vec Ideal S512x9088 .bf16 × Vec Ideal S512x1280 .fp8e4m3 × Vec Ideal S512x40 .f32 × Vec Ideal S9088x1280 .bf16) :
    stAt0 m c t.val t.isLt acc = left m c t := by
  rw [stAt0_A m c t acc h0, outA_3, outA_4, outA_5, sout_eq, block_w, block_e]
  rfl

/-- A later point computes its block with the weights it finds. -/
theorem point_later (t : Fin cfg0.N) (h0 : ¬t.val % 64 = 0)
    (acc : Vec Ideal S512x9088 .bf16 × Vec Ideal S512x1280 .fp8e4m3 × Vec Ideal S512x40 .f32 × Vec Ideal S9088x1280 .bf16)
    (hacc : acc.2.2.2 = weights (ws m c) (esPad m c)) :
    stAt0 m c t.val t.isLt acc = left m c t := by
  rw [stAt0_B m c t acc h0, outB_3, outB_4, outB_5, hacc]
  rfl

/-- After every point its blocks hold what `left` says. -/
theorem points (n : ℕ) : ∀ hn : n < cfg0.N, outsAt0 m c n hn = left m c ⟨n, hn⟩ := by
  induction n with
  | zero => exact fun hn => (outsAt0_zero m c hn).trans (point_first m c ⟨0, hn⟩ rfl _)
  | succ n ih =>
    intro hn
    refine (outsAt0_succ m c n hn).trans (point_later m c ⟨n + 1, hn⟩ ?_ _ ?_)
    · have h64 : cfg0.N = 64 := rfl
      show ¬(n + 1) % 64 = 0
      omega
    · rw [ih]
      rfl

/-- A row of a point's block is a row of the activations. -/
theorem row_block (t : Fin cfg0.N) (ht : t.val < 64) (p : Fin 512) :
    rowOf (iblk m c 0 t) p = rowOf (xs m c) ⟨512 * t.val + p.val, by omega⟩ :=
  funext fun d => block_x m c t ht p d

/-- The decoded weights are those of the packed weights and their exponents. -/
theorem weights_apply (n : Fin 9088) (k : Fin 1280) :
    weights (ws m c) (esPad m c) (ix2 n k) = Result.weight (ws m c) (es m c) n k :=
  congrArg (weightOf _ _) (esPad_apply m c n ⟨k.val / 32, by omega⟩)

/-- Row `p` of point `t`'s block is row `512 t + p`. -/
def at_ (t : Fin cfg0.N) (ht : t.val < 64) (p : Fin 512) : Fin 32768 := ⟨512 * t.val + p.val, by omega⟩

/-- A point's product at its row and column, -/
theorem left_y (t : Fin cfg0.N) (ht : t.val < 64) (p : Fin 512) (n : Fin 9088) :
    (left m c t).1 (ix2 p n) = Result.product (xs m c) (ws m c) (es m c) (ix2 (at_ t ht p) n) := by
  show (∑ k : Fin 1280, Row.weighted (rowOf (iblk m c 0 t) p) k * weights (ws m c) (esPad m c) (ix2 n k)) = ∑ k : Fin 1280, _
  rw [row_block m c t ht p]
  exact Finset.sum_congr rfl fun k _ => congrArg (_ * ·) (weights_apply m c n k)

/-- its codes, -/
theorem left_code (t : Fin cfg0.N) (ht : t.val < 64) (p : Fin 512) (d : Fin 1280) :
    (left m c t).2.1 (ix2 p d) = Result.codes (xs m c) (ix2 (at_ t ht p) d) := by
  show Row.code (rowOf (iblk m c 0 t) p) d = _
  rw [row_block m c t ht p]
  rfl

/-- and its scales. -/
theorem left_scale (t : Fin cfg0.N) (ht : t.val < 64) (p : Fin 512) (g : Fin 40) :
    (left m c t).2.2.1 (ix2 p g) = Result.scales (xs m c) (ix2 (at_ t ht p) g) := by
  show Row.scale (rowOf (iblk m c 0 t) p) g = _
  rw [row_block m c t ht p]
  rfl

/-- The place of a row and column, from the point they lie in. -/
theorem place {n : ℕ} (t : Fin cfg0.N) (ht : t.val < 64) (r : Fin 32768) (q q' : Fin n) (hr : t.val = r.val / 512)
    (hq : q'.val = q.val) : ix2 (at_ t ht ⟨r.val % 512, by omega⟩) q' = ix2 r q := by
  have h : at_ t ht ⟨r.val % 512, by omega⟩ = r := Fin.ext (by show 512 * t.val + r.val % 512 = r.val; omega)
  rw [h, Fin.ext hq]

/-- The first result is the product. -/
theorem G3_eq : G3 m c = Result.product (xs m c) (ws m c) (es m c) := by
  funext i
  have hT : (i 0).val < 32768 := (i 0).isLt
  have h1 : (i 1).val / 9088 = 0 := Nat.div_eq_of_lt (i 1).isLt
  have hpt : pt3Of i = (i 0).val / 512 := by
    show 1 * ((i 0).val / 512 - 0) + 1 * ((i 1).val / 9088 - 0) = _
    omega
  have hN : cfg0.N = 64 := rfl
  unfold G3
  rw [dif_pos (show pt3Of i < cfg0.N by omega), ← outsAt0_sweep m c (pt3Of i) (by omega), points]
  refine (congrArg (left m c _).1 (Quant.ix2_eta (loc3Of i))).trans ?_
  refine (left_y m c ⟨pt3Of i, by omega⟩ (by show pt3Of i < 64; omega) (loc3Of i 0) (loc3Of i 1)).trans ?_
  exact congrArg (Result.product (xs m c) (ws m c) (es m c)) ((place _ _ (i 0) (i 1) _ hpt (Nat.mod_eq_of_lt (i 1).isLt)).trans (Quant.ix2_eta i).symm)

/-- The second is the codes. -/
theorem G4_eq : G4 m c = Result.codes (xs m c) := by
  funext i
  have hT : (i 0).val < 32768 := (i 0).isLt
  have h1 : (i 1).val / 1280 = 0 := Nat.div_eq_of_lt (i 1).isLt
  have hpt : pt4Of i = (i 0).val / 512 := by
    show 1 * ((i 0).val / 512 - 0) + 1 * ((i 1).val / 1280 - 0) = _
    omega
  have hN : cfg0.N = 64 := rfl
  unfold G4
  rw [dif_pos (show pt4Of i < cfg0.N by omega), ← outsAt0_sweep m c (pt4Of i) (by omega), points]
  refine (congrArg (left m c _).2.1 (Quant.ix2_eta (loc4Of i))).trans ?_
  refine (left_code m c ⟨pt4Of i, by omega⟩ (by show pt4Of i < 64; omega) (loc4Of i 0) (loc4Of i 1)).trans ?_
  exact congrArg (Result.codes (xs m c)) ((place _ _ (i 0) (i 1) _ hpt (Nat.mod_eq_of_lt (i 1).isLt)).trans (Quant.ix2_eta i).symm)

/-- The third is the scales. -/
theorem G5_eq : G5 m c = Result.scales (xs m c) := by
  funext i
  have hT : (i 0).val < 32768 := (i 0).isLt
  have h1 : (i 1).val / 40 = 0 := Nat.div_eq_of_lt (i 1).isLt
  have hpt : pt5Of i = (i 0).val / 512 := by
    show 1 * ((i 0).val / 512 - 0) + 1 * ((i 1).val / 40 - 0) = _
    omega
  have hN : cfg0.N = 64 := rfl
  unfold G5
  rw [dif_pos (show pt5Of i < cfg0.N by omega), ← outsAt0_sweep m c (pt5Of i) (by omega), points]
  refine (congrArg (left m c _).2.2.1 (Quant.ix2_eta (loc5Of i))).trans ?_
  refine (left_scale m c ⟨pt5Of i, by omega⟩ (by show pt5Of i < 64; omega) (loc5Of i 0) (loc5Of i 1)).trans ?_
  exact congrArg (Result.scales (xs m c)) ((place _ _ (i 0) (i 1) _ hpt (Nat.mod_eq_of_lt (i 1).isLt)).trans (Quant.ix2_eta i).symm)

end Cert.KernelIdeal.Arrays

end
-- ==== Proof.ReferenceQuant.lean ====
/- The reference's quantiser at an index: the scale and the code of a row's group, by its count of powers of two. -/
module

public import proofs.«01_k».proof.Proof.Row
public import proofs.«01_k».proof.Proof.Block
public import proofs.«01_k».proof.Proof.Gen.ReferenceIdeal.Frame
public import Idealize.ShloMosaic.Lib.Pipeline.Value
public import Idealize.ShloMosaic.PureOps.Ideal.Laws

@[expose] public section

noncomputable section

namespace Cert.ReferenceIdeal.Quant

open Idealize.ShloMosaic Cert.ReferenceIdeal Cert.ReferenceIdeal.Gen Cert.KernelIdeal.Quant Idealize.ShloMosaic.TcCoe

/-- The index of three coordinates. -/
def ix3 {a b c : ℕ} (i : Fin a) (j : Fin b) (k : Fin c) : (⟨3, ![a, b, c]⟩ : Shape).Idx := fun
  | ⟨0, _⟩ => i
  | ⟨1, _⟩ => j
  | ⟨2, _⟩ => k

/-- Rows in groups of 32 lanes: lane `k` of group `g`. -/
theorem split_apply {α : Type} {n : ℕ} (v : (⟨2, ![n, 1280]⟩ : Shape).Idx → α)
    (h : (⟨2, ![n, 1280]⟩ : Shape).ShapeCasts ⟨3, ![n, 40, 32]⟩) (p : Fin n) (g : Fin 40) (k : Fin 32) :
    shapeCast ⟨3, ![n, 40, 32]⟩ v h (ix3 p g k) = v (ix2 p (Row.inGroup g k)) := by
  refine shapeCast_apply v h _ _ ?_
  refine (Shape.rowMajor_val_two _).trans (Eq.trans ?_ (Shape.rowMajor_val_three _).symm)
  show p.val * 1280 + (32 * g.val + k.val) = (p.val * 40 + g.val) * 32 + k.val
  omega

/-- The groups put together again. -/
theorem join_apply {α : Type} {n : ℕ} (v : (⟨3, ![n, 40, 32]⟩ : Shape).Idx → α)
    (h : (⟨3, ![n, 40, 32]⟩ : Shape).ShapeCasts ⟨2, ![n, 1280]⟩) (p : Fin n) (d : Fin 1280) :
    shapeCast ⟨2, ![n, 1280]⟩ v h (ix2 p d) = v (ix3 p (Row.groupOf d) ⟨d.val % 32, by omega⟩) := by
  refine shapeCast_apply v h _ _ ?_
  refine (Shape.rowMajor_val_three _).trans (Eq.trans ?_ (Shape.rowMajor_val_two _).symm)
  show (p.val * 40 + d.val / 32) * 32 + d.val % 32 = p.val * 1280 + d.val
  omega

/-- A value per group, repeated along an axis added to it. -/
theorem repeat_apply {α : Type} {n l : ℕ} (v : (⟨2, ![n, 40]⟩ : Shape).Idx → α)
    (h : (⟨2, ![n, 40]⟩ : Shape).ShapeCasts ⟨3, ![n, 40, 1]⟩) (hb : (⟨3, ![n, 40, 1]⟩ : Shape).Broadcasts ⟨3, ![n, 40, l]⟩)
    (hn : n ≠ 1) (p : Fin n) (g : Fin 40) (k : Fin l) :
    broadcastTo ⟨3, ![n, 40, l]⟩ (shapeCast ⟨3, ![n, 40, 1]⟩ v h) hb (ix3 p g k) = v (ix2 p g) := by
  refine (broadcastTo_apply _ hb _ (ix3 p g (0 : Fin 1)) fun a => ?_).trans (shapeCast_apply v h _ _ ?_)
  · match a with
    | ⟨0, _⟩ => exact (if_neg hn).symm
    | ⟨1, _⟩ => rfl
    | ⟨2, _⟩ => rfl
  · refine (Shape.rowMajor_val_two _).trans (Eq.trans ?_ (Shape.rowMajor_val_three _).symm)
    show p.val * 40 + g.val = (p.val * 40 + g.val) * 1 + 0
    omega

variable (x : Vec Ideal S32768x1280 .bf16)

/-- The activations in groups. -/
theorem grouped_apply (p : Fin 32768) (g : Fin 40) (k : Fin 32) :
    k0_pay1 x (ix3 p g k) = rowOf x p (Row.inGroup g k) := by
  unfold k0_pay1
  refine (split_apply _ _ p g k).trans ?_
  show shapeCast S32768x1280 x shapeCasts_S32768x1280_S32768x1280 (ix2 p (Row.inGroup g k)) = _
  rw [shapeCast_id]
  rfl

/-- The least float32 is minus infinity. -/
theorem ofBits_bot : Ideal.ofBits .f32 0xFF800000#32 = ⊥ := by simp [Ideal.ofBits, Ideal.ieee]

/-- The float32 word of 0. -/
theorem ofBits_zero : Ideal.ofBits .f32 0x00000000#32 = 0 := by simp [Ideal.ofBits, Ideal.ieee]

/-- The float32 word of 1. -/
theorem ofBits_one : Ideal.ofBits .f32 0x3F800000#32 = 1 := by simp [Ideal.ofBits, Ideal.ieee]; norm_num [← EReal.coe_mul]

/-- The float32 word of 126. -/
theorem ofBits_126 : Ideal.ofBits .f32 0x42FC0000#32 = ((126 : ℝ) : EReal) := by
  simp [Ideal.ofBits, Ideal.ieee]; norm_num [← EReal.coe_mul]

/-- A group's largest magnitude. -/
theorem max_apply (p : Fin 32768) (g : Fin 40) :
    multiReduction (F := Ideal) .maximumf [2] S32768x40 (absf (k0_pay1 x)) 0xFF800000#32 reduces_S32768x40x32_S32768x40 (.inl rfl) rfl
      (ix2 p g) = Row.groupMax (rowOf x p) g := by
  refine (Ideal.multiReduction_maximumf_single _ _ _ _ _ _).trans ?_
  show (Finset.univ : Finset (Fin 32)).fold max (Ideal.ofBits .f32 0xFF800000#32) _ = Finset.univ.sup _
  rw [ofBits_bot]
  refine Finset.fold_congr fun k _ => ?_
  have e : reduces_S32768x40x32_S32768x40.lift (ix2 p g) k = ix3 p g k := by
    funext a
    match a with
    | ⟨0, _⟩ => rfl
    | ⟨1, _⟩ => rfl
    | ⟨2, _⟩ => rfl
  show (fun a : EReal => max a (-a)) (k0_pay1 x (reduces_S32768x40x32_S32768x40.lift (ix2 p g) k)) = _
  rw [e, grouped_apply]
  rfl

/-- The word of a power's exponent, as a number. -/
theorem index_word : ∀ k : Fin 254, (BitVec.ofNat 32 k.val - 126#32).toInt = (k.val : ℤ) - 126 := by decide +kernel

/-- The number of powers of two that a group's value reaches. -/
def counts (t : FVec Ideal S32768x40 .f32) : FVec Ideal S32768x40 .f32 :=
  multiReduction .add [2] S32768x40
    (select (cmpf .oge (broadcastTo S32768x40x254 (shapeCast S32768x40x1 t shapeCasts_S32768x40_S32768x40x1) broadcasts_S32768x40x1_S32768x40x254)
        (exp2 (sitofp .f32 (subi (iota .tc S32768x40x254 32 [2] iota_S32768x40x254_d2_w32) (broadcast S32768x40x254 126#32)))))
      (broadcast S32768x40x254 (Scalar.ofBits .f32 0x3F800000#32)) (broadcast S32768x40x254 (Scalar.ofBits .f32 0x00000000#32)))
    0x00000000#32 reduces_S32768x40x254_S32768x40 (.inl rfl) rfl

/-- It is the count of them. -/
theorem counts_apply (t : FVec Ideal S32768x40 .f32) (p : Fin 32768) (g : Fin 40) :
    counts t (ix2 p g) = Exponent.count (t (ix2 p g)) := by
  unfold counts
  refine (Ideal.multiReduction_add_single _ _ _ _ _ _).trans ?_
  refine Finset.sum_congr rfl fun (k : Fin 254) _ => ?_
  have e : reduces_S32768x40x254_S32768x40.lift (ix2 p g) k = ix3 p g k := by
    funext a
    match a with
    | ⟨0, _⟩ => rfl
    | ⟨1, _⟩ => rfl
    | ⟨2, _⟩ => rfl
  rw [e]
  have hs : broadcastTo S32768x40x254 (shapeCast S32768x40x1 t shapeCasts_S32768x40_S32768x40x1)
      broadcasts_S32768x40x1_S32768x40x254 (ix3 p g k) = t (ix2 p g) := repeat_apply t _ _ (by decide) p g k
  have hi : iota .tc S32768x40x254 32 [2] iota_S32768x40x254_d2_w32 (ix3 p g k) = BitVec.ofNat 32 k.val :=
    congrArg (BitVec.ofNat 32) (Nat.zero_add _)
  show Scalar.select (Ideal.cmp .oge (broadcastTo S32768x40x254 _ _ (ix3 p g k))
    (Ideal.exp2 (((iota .tc S32768x40x254 32 [2] iota_S32768x40x254_d2_w32 (ix3 p g k) - 126#32).toInt : ℝ) : EReal)))
    (Ideal.ofBits .f32 0x3F800000#32) (Ideal.ofBits .f32 0x00000000#32) = _
  rw [hs, hi, index_word, ofBits_one, ofBits_zero]
  by_cases h : Ideal.exp2 ((((k.val : ℤ) - 126 : ℤ) : ℝ) : EReal) ≤ t (ix2 p g)
  · rw [if_pos h]
    exact if_pos (congrArg BitVec.ofBool (decide_eq_true h))
  · rw [if_neg h]
    exact if_neg fun h' => h (of_decide_eq_true ((by decide : ∀ b, BitVec.ofBool b = 1#1 → b = true) _ h'))

/-- The exponents, from the counts. -/
def expos (c : FVec Ideal S32768x40 .f32) : FVec Ideal S32768x40 .f32 :=
  select (cmpf .oeq c (broadcast S32768x40 (Scalar.ofBits .f32 0x00000000#32))) (broadcast S32768x40 (Scalar.ofBits .f32 0x00000000#32))
    (subf c (broadcast S32768x40 (Scalar.ofBits .f32 0x42FC0000#32)))

/-- The reference's exponent at a group, from its count: 0 for a count of 0, else the count less 126. -/
theorem expos_apply (c : FVec Ideal S32768x40 .f32) (i : S32768x40.Idx) :
    expos c i = if (c i : EReal) = 0 then 0 else (c i : EReal) - ((126 : ℝ) : EReal) := by
  show Scalar.select (Ideal.cmp .oeq (c i) (Ideal.ofBits .f32 0x00000000#32)) (Ideal.ofBits .f32 0x00000000#32)
    ((c i : EReal) - Ideal.ofBits .f32 0x42FC0000#32) = _
  rw [ofBits_126, ofBits_zero]
  by_cases h : (c i : EReal) = 0
  · rw [if_pos h]
    exact if_pos (congrArg BitVec.ofBool (decide_eq_true h))
  · rw [if_neg h]
    exact if_neg fun h' => h (of_decide_eq_true ((by decide : ∀ b, BitVec.ofBool b = 1#1 → b = true) _ h'))

/-- The groups' values: their largest magnitudes over 448. -/
def values : FVec Ideal S32768x40 .f32 :=
  mulf (multiReduction (F := Ideal) .maximumf [2] S32768x40 (absf (k0_pay1 x)) 0xFF800000#32
    reduces_S32768x40x32_S32768x40 (.inl rfl) rfl) (broadcast S32768x40 (Scalar.ofBits .f32 0x3B124925#32))

/-- A product with a constant, at an index. -/
theorem mulf_const (v : FVec Ideal S32768x40 .f32) (b : BitVec 32) (i : S32768x40.Idx) (e : EReal) (h : v i = e) :
    mulf v (broadcast S32768x40 (Scalar.ofBits .f32 b)) i = e * Ideal.ofBits .f32 b := congrArg (· * Ideal.ofBits .f32 b) h

/-- The numbers whose exponents are taken are the groups' largest magnitudes over 448. -/
theorem values_apply (p : Fin 32768) (g : Fin 40) : values x (ix2 p g) = Row.scaled (rowOf x p) g :=
  mulf_const _ _ _ _ (max_apply x p g)

/-- The reference's exponents are those of the counts of the groups' values. -/
theorem expos_eq : k0_pay2 x = expos (counts (values x)) := by
  unfold k0_pay2
  rfl

/-- The exponent of a group. -/
theorem expo_apply (p : Fin 32768) (g : Fin 40) :
    k0_pay2 x (ix2 p g) = Exponent.expo (Row.scaled (rowOf x p) g) := by
  rw [expos_eq, expos_apply, counts_apply, values_apply]
  rfl

/-- A power of two and its inverse, at an index. -/
theorem exp2_apply (v : FVec Ideal S32768x40 .f32) (i : S32768x40.Idx) (e : EReal) (h : v i = e) : exp2 v i = Ideal.exp2 e :=
  congrArg Ideal.exp2 h

/-- `exp2` of a negated exponent, at one group. -/
theorem exp2_neg_apply (v : FVec Ideal S32768x40 .f32) (i : S32768x40.Idx) (e : EReal) (h : v i = e) :
    exp2 (subf (broadcast S32768x40 (Scalar.ofBits (F := Ideal) .f32 0x00000000#32)) v) i = Ideal.exp2 (0 - e) := by
  show Ideal.exp2 (Ideal.ofBits .f32 0x00000000#32 - v i) = _
  rw [ofBits_zero, h]

/-- The scale of a group. -/
theorem scale_apply (p : Fin 32768) (g : Fin 40) :
    k0_pay3 x (ix2 p g) = Ideal.exp2 (Exponent.expo (Row.scaled (rowOf x p) g)) := by
  unfold k0_pay3
  exact exp2_apply _ _ _ (expo_apply x p g)

/-- A lane of its group. -/
theorem lane (d : Fin 1280) : Row.inGroup (Row.groupOf d) ⟨d.val % 32, by omega⟩ = d :=
  Fin.ext (by show 32 * (d.val / 32) + d.val % 32 = d.val; omega)

/-- A product held within 448, at an index. -/
theorem clamp_apply (a b : FVec Ideal S32768x40x32 .f32) (i : S32768x40x32.Idx) (u v : EReal) (ha : a i = u) (hb : b i = v) :
    truncf .fp8e4m3 (minimumf (broadcast S32768x40x32 (Scalar.ofBits .f32 0x43E00000#32))
      (maximumf (broadcast S32768x40x32 (Scalar.ofBits .f32 0xC3E00000#32)) (mulf a b))) bitsLt_fp8e4m3_f32 i = Row.clamp (u * v) :=
  congrArg Row.clamp (congrArg₂ (· * ·) ha hb)

/-- The code of a lane. -/
theorem code_apply (p : Fin 32768) (d : Fin 1280) :
    k0_pay4 x (ix2 p d)
      = Row.clamp (rowOf x p d * Ideal.exp2 (0 - Exponent.expo (Row.scaled (rowOf x p) (Row.groupOf d)))) := by
  unfold k0_pay4
  refine (join_apply _ _ p d).trans (clamp_apply _ _ _ _ _ ?_ ?_)
  · refine (grouped_apply x p (Row.groupOf d) ⟨d.val % 32, by omega⟩).trans ?_
    rw [lane]
  · refine (repeat_apply _ _ _ (by omega) p (Row.groupOf d) ⟨d.val % 32, by omega⟩).trans ?_
    exact exp2_neg_apply _ _ _ (expo_apply x p (Row.groupOf d))

/-- A product and its two conversions, at an index. -/
theorem mulf_apply (a b : FVec Ideal S32768x40x32 .bf16) (i : S32768x40x32.Idx) (u v : EReal) (ha : a i = u) (hb : b i = v) :
    mulf a b i = u * v := congrArg₂ (· * ·) ha hb

/-- Widening changes no number. -/
theorem extf_apply (a : FVec Ideal S32768x1280 .fp8e4m3) (i : S32768x1280.Idx) : extf .bf16 a bitsLt_fp8e4m3_bf16 i = a i := rfl

/-- Narrowing changes no number over the extended reals. -/
theorem truncf_apply (a : FVec Ideal S32768x40 .f32) (i : S32768x40.Idx) : truncf .bf16 a bitsLt_bf16_f32 i = a i := rfl

/-- The weighted activation of a lane. -/
theorem weighted_apply (p : Fin 32768) (d : Fin 1280) (u v : EReal) (hu : k0_pay4 x (ix2 p d) = u)
    (hv : k0_pay3 x (ix2 p (Row.groupOf d)) = v) : k0_pay5 x (ix2 p d) = u * v := by
  unfold k0_pay5
  refine (join_apply _ _ p d).trans (mulf_apply _ _ _ _ _ ?_ ?_)
  · refine (split_apply _ _ p _ _).trans ((extf_apply _ _).trans ?_)
    rw [lane]
    exact hu
  · exact (repeat_apply _ _ _ (by omega) p (Row.groupOf d) ⟨d.val % 32, by omega⟩).trans ((truncf_apply _ _).trans hv)

end Cert.ReferenceIdeal.Quant

end
-- ==== Proof.ReferenceWeights.lean ====
/- The reference's decoded weights and its product at an index: the four-bit number chosen by its bits, times the power of
   two of its group's exponent, summed over the lanes. -/
module

public import proofs.«01_k».proof.Proof.ReferenceQuant
public import proofs.«01_k».proof.Proof.Result

@[expose] public section

noncomputable section

namespace Cert.ReferenceIdeal.Weights

open Idealize.ShloMosaic Cert.ReferenceIdeal Cert.ReferenceIdeal.Gen Cert.ReferenceIdeal.Quant Idealize.ShloMosaic.TcCoe

/-- Bit 0 of a word, -/
def bit0 (n : BitVec 32) : BitVec 1 := IntOp.cmpi .ne (IntOp.andi n 1#32) 0#32

/-- and bit `q`. -/
def bit (q : BitVec 32) (n : BitVec 32) : BitVec 1 := IntOp.cmpi .ne (IntOp.andi (IntOp.shrsi .vector n q) 1#32) 0#32

/-- The number four bits stand for, chosen bit by bit. -/
def choose (b0 b1 b2 b3 : BitVec 1) : EReal :=
  let mag := Scalar.select b2
    (Scalar.select b1 (Scalar.select b0 (Ideal.ofBits .bf16 0x40C0#16) (Ideal.ofBits .bf16 0x4080#16))
      (Scalar.select b0 (Ideal.ofBits .bf16 0x4040#16) (Ideal.ofBits .bf16 0x4000#16)))
    (Scalar.select b1 (Scalar.select b0 (Ideal.ofBits .bf16 0x3FC0#16) (Ideal.ofBits .bf16 0x3F80#16))
      (Scalar.select b0 (Ideal.ofBits .bf16 0x3F00#16) (Ideal.ofBits .bf16 0x0000#16)))
  Scalar.select b3 (Ideal.ofBits .bf16 0x0000#16 - mag) mag

/-- The bits of a four-bit number's word. -/
theorem bits : ∀ k : Fin 16, bit0 (BitVec.ofNat 32 k.val) = BitVec.ofBool (k.val.testBit 0)
    ∧ bit 1#32 (BitVec.ofNat 32 k.val) = BitVec.ofBool (k.val.testBit 1)
    ∧ bit 2#32 (BitVec.ofNat 32 k.val) = BitVec.ofBool (k.val.testBit 2)
    ∧ bit 3#32 (BitVec.ofNat 32 k.val) = BitVec.ofBool (k.val.testBit 3) := by decide +kernel

/-- The bfloat16 word of 0. -/
theorem ofBits_0 : Ideal.ofBits .bf16 0x0000#16 = 0 := by simp [Ideal.ofBits, Ideal.ieee]
/-- The bfloat16 word of 1/2. -/
theorem ofBits_half : Ideal.ofBits .bf16 0x3F00#16 = ((1 / 2 : ℝ) : EReal) := by
  simp [Ideal.ofBits, Ideal.ieee]; norm_num [← EReal.coe_mul]
/-- The bfloat16 word of 1. -/
theorem ofBits_1 : Ideal.ofBits .bf16 0x3F80#16 = ((1 : ℝ) : EReal) := by
  simp [Ideal.ofBits, Ideal.ieee]; norm_num [← EReal.coe_mul]
/-- The bfloat16 word of 3/2. -/
theorem ofBits_3half : Ideal.ofBits .bf16 0x3FC0#16 = ((3 / 2 : ℝ) : EReal) := by
  simp [Ideal.ofBits, Ideal.ieee]; norm_num [← EReal.coe_mul]
/-- The bfloat16 word of 2. -/
theorem ofBits_2 : Ideal.ofBits .bf16 0x4000#16 = ((2 : ℝ) : EReal) := by
  simp [Ideal.ofBits, Ideal.ieee]; norm_num [← EReal.coe_mul]
/-- The bfloat16 word of 3. -/
theorem ofBits_3 : Ideal.ofBits .bf16 0x4040#16 = ((3 : ℝ) : EReal) := by
  simp [Ideal.ofBits, Ideal.ieee]; norm_num [← EReal.coe_mul]
/-- The bfloat16 word of 4. -/
theorem ofBits_4 : Ideal.ofBits .bf16 0x4080#16 = ((4 : ℝ) : EReal) := by
  simp [Ideal.ofBits, Ideal.ieee]; norm_num [← EReal.coe_mul]
/-- The bfloat16 word of 6. -/
theorem ofBits_6 : Ideal.ofBits .bf16 0x40C0#16 = ((6 : ℝ) : EReal) := by
  simp [Ideal.ofBits, Ideal.ieee]; norm_num [← EReal.coe_mul]

/-- What the bits choose is the number's value. -/
theorem choose_eq (k : Fin 16) :
    choose (BitVec.ofBool (k.val.testBit 0)) (BitVec.ofBool (k.val.testBit 1)) (BitVec.ofBool (k.val.testBit 2))
      (BitVec.ofBool (k.val.testBit 3)) = ((Nibble.e2m1 k : ℝ) : EReal) := by
  unfold choose
  rw [ofBits_0, ofBits_half, ofBits_1, ofBits_3half, ofBits_2, ofBits_3, ofBits_4, ofBits_6]
  fin_cases k <;> simp [Scalar.select, Nibble.e2m1, Nat.testBit, EReal.coe_neg]

/-- The decoded four-bit numbers. -/
def decoded (n : IVec S4544x1280 32) : FVec Ideal S4544x1280 .bf16 := fun i =>
  choose (bit0 (n i)) (bit 1#32 (n i)) (bit 2#32 (n i)) (bit 3#32 (n i))

/-- The reference's choice among the eight magnitudes is the e2m1 number of the four bits. -/
theorem decoded_apply (n : IVec S4544x1280 32) (i : S4544x1280.Idx) (k : Fin 16) (h : n i = BitVec.ofNat 32 k.val) :
    decoded n i = ((Nibble.e2m1 k : ℝ) : EReal) := by
  unfold decoded
  obtain ⟨h0, h1, h2, h3⟩ := bits k
  rw [h, h0, h1, h2, h3]
  exact choose_eq k

/-- Numbers times the powers of two of their groups' exponents. -/
def scaled (v : FVec Ideal S4544x1280 .bf16) (s : IVec S4544x40 8) : FVec Ideal S4544x1280 .bf16 :=
  shapeCast S4544x1280 (mulf (shapeCast S4544x40x32 v shapeCasts_S4544x1280_S4544x40x32)
    (broadcastTo S4544x40x32 (shapeCast S4544x40x1
      (truncf .bf16 (exp2 (sitofp .f32 (subi (extui 32 s natLt_8_32) (broadcast S4544x40 127#32)))) bitsLt_bf16_f32)
      shapeCasts_S4544x40_S4544x40x1) broadcasts_S4544x40x1_S4544x40x32)) shapeCasts_S4544x40x32_S4544x1280

/-- An exponent's word, as a number. -/
theorem exponent_word : ∀ b : Fin 256, ((BitVec.ofFin b : BitVec 8).setWidth 32 - 127#32).toInt = (b.val : ℤ) - 127 := by
  decide +kernel

/-- A power of two by its exponent, or by an exponent field that is neither zero nor all ones. -/
theorem exponent_power (b : BitVec 8) (h1 : 1 ≤ b.toNat) (h2 : b.toNat ≤ 254) :
    Ideal.exp2 ((((b.setWidth 32 - 127#32).toInt : ℤ) : ℝ) : EReal) = Exponent.power (b.setWidth 32) := by
  have hw : b.setWidth 32 = BitVec.ofNat 32 b.toNat := by
    apply BitVec.eq_of_toNat_eq
    simp
  rw [exponent_word b.toFin, Exponent.exp2_coe, hw, Exponent.power_ofNat _ h1 h2]
  rfl

/-- A decoded weight times its group's scale, for a scale byte of 1 to 254. -/
theorem scaled_apply (v : FVec Ideal S4544x1280 .bf16) (s : IVec S4544x40 8) (p : Fin 4544) (k : Fin 1280) (e : EReal) (b : BitVec 8)
    (hv : v (ix2 p k) = e) (hs : s (ix2 p (Row.groupOf k)) = b) (h1 : 1 ≤ b.toNat) (h2 : b.toNat ≤ 254) :
    scaled v s (ix2 p k) = e * Exponent.power (b.setWidth 32) := by
  unfold scaled
  refine (join_apply _ _ p k).trans (congrArg₂ (· * ·) ?_ ?_)
  · refine (split_apply _ _ p _ _).trans ?_
    rw [lane]
    exact hv
  · refine (repeat_apply _ _ _ (by omega) p (Row.groupOf k) ⟨k.val % 32, by omega⟩).trans ?_
    show Ideal.exp2 ((((s (ix2 p (Row.groupOf k))).setWidth 32 - 127#32).toInt : ℝ) : EReal) = _
    rw [hs]
    exact exponent_power b h1 h2

/-- The low and the high four bits of a byte, as words. -/
theorem nibble_word : ∀ b : Fin 256,
    IntOp.andi ((BitVec.ofFin b : BitVec 8).setWidth 32) 15#32 = BitVec.ofNat 32 (Nibble.nibble 0 (BitVec.ofFin b)).val
    ∧ IntOp.shrsi .vector ((BitVec.ofFin b : BitVec 8).setWidth 32) 4#32 = BitVec.ofNat 32 (Nibble.nibble 1 (BitVec.ofFin b)).val := by
  decide +kernel

variable (w : Vec Ideal S4544x1280 .i8) (s : Vec Ideal S9088x40 .i8)

/-- The rows below 4544: the low nibbles, -/
def low : FVec Ideal S4544x1280 .bf16 := scaled (decoded (k0_pay7 (F := Ideal) w)) (k0_pay9 (F := Ideal) s)

/-- and the others: the high ones. -/
def high : FVec Ideal S4544x1280 .bf16 := scaled (decoded (k0_pay8 (F := Ideal) w)) (k0_pay18 (F := Ideal) s)

variable (hs : ∀ i, 1 ≤ (s i).toNat ∧ (s i).toNat ≤ 254)
include hs

/-- The weights of the low four bits are the first 4544 rows of the weights. -/
theorem low_apply (p : Fin 4544) (k : Fin 1280) :
    low w s (ix2 p k) = Result.weight w s ⟨p.val, by omega⟩ k := by
  have hv := decoded_apply (k0_pay7 (F := Ideal) w) (ix2 p k) (Nibble.nibble 0 (w (ix2 p k))) (nibble_word (w (ix2 p k)).toFin).1
  have hb : k0_pay9 (F := Ideal) s (ix2 p (Row.groupOf k)) = s (ix2 ⟨p.val, by omega⟩ (Row.groupOf k)) := by
    refine extractStridedSlice_apply _ _ slices_S9088x40_o0_0_S4544x40 _ _ fun a => ?_
    match a with
    | ⟨0, _⟩ => exact (Nat.zero_add _).symm
    | ⟨1, _⟩ => exact (Nat.zero_add _).symm
  have h := scaled_apply _ _ p k _ _ hv hb (hs _).1 (hs _).2
  refine h.trans ?_
  have e0 : (⟨p.val / 4544, by omega⟩ : Fin 2) = 0 := Fin.ext (by show p.val / 4544 = 0; omega)
  have e1 : (⟨p.val % 4544, by omega⟩ : Fin 4544) = p := Fin.ext (by show p.val % 4544 = p.val; omega)
  show _ = KernelIdeal.Decode.weightOf (⟨p.val / 4544, _⟩ : Fin 2) (w (ix2 (⟨p.val % 4544, _⟩ : Fin 4544) k)) _
  rw [e0, e1]
  rfl

/-- The weights of the high four bits are the last 4544 rows of the weights. -/
theorem high_apply (p : Fin 4544) (k : Fin 1280) :
    high w s (ix2 p k) = Result.weight w s ⟨4544 + p.val, by omega⟩ k := by
  have hv := decoded_apply (k0_pay8 (F := Ideal) w) (ix2 p k) (Nibble.nibble 1 (w (ix2 p k))) (nibble_word (w (ix2 p k)).toFin).2
  have hb : k0_pay18 (F := Ideal) s (ix2 p (Row.groupOf k)) = s (ix2 ⟨4544 + p.val, by omega⟩ (Row.groupOf k)) := by
    refine extractStridedSlice_apply _ _ slices_S9088x40_o4544_0_S4544x40 _ _ fun a => ?_
    match a with
    | ⟨0, _⟩ => rfl
    | ⟨1, _⟩ => exact (Nat.zero_add _).symm
  have h := scaled_apply _ _ p k _ _ hv hb (hs _).1 (hs _).2
  refine h.trans ?_
  have e0 : (⟨(4544 + p.val) / 4544, by omega⟩ : Fin 2) = 1 := Fin.ext (by show (4544 + p.val) / 4544 = 1; omega)
  have e1 : (⟨(4544 + p.val) % 4544, by omega⟩ : Fin 4544) = p := Fin.ext (by show (4544 + p.val) % 4544 = p.val; omega)
  show _ = KernelIdeal.Decode.weightOf (⟨(4544 + p.val) / 4544, _⟩ : Fin 2) (w (ix2 (⟨(4544 + p.val) % 4544, _⟩ : Fin 4544) k)) _
  rw [e0, e1]
  rfl

omit hs

/-- The product with each half of the weights. -/
def half (a : FVec Ideal S32768x1280 .bf16) (b : FVec Ideal S4544x1280 .bf16) : FVec Ideal S32768x4544 .f32 :=
  matmul dot_S32768x1280_S4544x1280_S32768x4544_1_1_0_0_n_n none a b (constant S32768x4544 .f32 0x00000000#32)

/-- One half of the product is the sum over the model's axis. -/
theorem half_apply (a : FVec Ideal S32768x1280 .bf16) (b : FVec Ideal S4544x1280 .bf16) (t : Fin 32768) (p : Fin 4544) :
    half a b (ix2 t p) = ∑ k : Fin 1280, (a (ix2 t k) : EReal) * b (ix2 p k) := by
  refine (Ideal.matmul_transposedRhs_apply (M := 32768) (K := 1280) (N := 4544) (φ₁ := .bf16) (φ₂ := .bf16) none a b _ t p).trans ?_
  exact (congrArg (· + _) ofBits_zero).trans (zero_add _)

/-- Both halves side by side. -/
def both (a : FVec Ideal S32768x1280 .bf16) (lo hi : FVec Ideal S4544x1280 .bf16) : FVec Ideal S32768x9088 .bf16 :=
  truncf .bf16 (concatenate S32768x9088 1 [⟨S32768x4544, half a lo⟩, ⟨S32768x4544, half a hi⟩]
    concatenates_S32768x4544_S32768x4544_S32768x9088_d1) bitsLt_bf16_f32

/-- The first 4544 columns of the joined product are the first half's. -/
theorem both_low (a : FVec Ideal S32768x1280 .bf16) (lo hi : FVec Ideal S4544x1280 .bf16) (t : Fin 32768) (n : Fin 9088) (h : n.val < 4544) :
    both a lo hi (ix2 t n) = half a lo (ix2 t ⟨n.val, h⟩) := by
  refine concatenate_pair_apply_left (t := S32768x9088) (s₁ := S32768x4544) (s₂ := S32768x4544) 1 (half a lo) (half a hi)
    concatenates_S32768x4544_S32768x4544_S32768x9088_d1 (ix2 t n) rfl (ix2 t ⟨n.val, h⟩) fun b => ?_
  match b with
  | ⟨0, _⟩ => rfl
  | ⟨1, _⟩ => rfl

/-- The last 4544 columns of the joined product are the second half's. -/
theorem both_high (a : FVec Ideal S32768x1280 .bf16) (lo hi : FVec Ideal S4544x1280 .bf16) (t : Fin 32768) (n : Fin 9088) (h : ¬n.val < 4544) :
    both a lo hi (ix2 t n) = half a hi (ix2 t ⟨n.val - 4544, by omega⟩) := by
  refine concatenate_pair_apply_right (t := S32768x9088) (s₁ := S32768x4544) (s₂ := S32768x4544) 1 (half a lo) (half a hi)
    concatenates_S32768x4544_S32768x4544_S32768x9088_d1 (ix2 t n) rfl rfl
    (ix2 t ⟨n.val - 4544, by omega⟩) (fun b hb => ?_) ?_
  · match b with
    | ⟨0, _⟩ => rfl
    | ⟨1, _⟩ => exact absurd rfl hb
  · show n.val - 4544 + 4544 = n.val
    omega

include hs in
/-- The product of rows with all the decoded weights. -/
theorem both_apply (a : FVec Ideal S32768x1280 .bf16) (t : Fin 32768) (n : Fin 9088) :
    both a (low w s) (high w s) (ix2 t n) = ∑ k : Fin 1280, (a (ix2 t k) : EReal) * Result.weight w s n k := by
  by_cases h : n.val < 4544
  · rw [both_low _ _ _ t n h, half_apply]
    exact Finset.sum_congr rfl fun k _ => congrArg (_ * ·) (low_apply w s hs _ k)
  · rw [both_high _ _ _ t n h, half_apply]
    refine Finset.sum_congr rfl fun k _ => congrArg (_ * ·) ((high_apply w s hs _ k).trans ?_)
    exact congrArg (fun q => Result.weight w s q k) (Fin.ext (by show 4544 + (n.val - 4544) = n.val; omega))

end Cert.ReferenceIdeal.Weights

end
-- ==== Proof.Finite.lean ====
/- Where no activation exceeds the largest finite `bf16`, the kernel's search and the reference's count find the same scale. -/
module

public import proofs.«01_k».proof.Proof.Row

@[expose] public section

noncomputable section

namespace Cert.Row

open Idealize.ShloMosaic

/-- The largest finite `bf16`. -/
theorem ofBits_most : Ideal.ofBits .bf16 0x7F7F#16 = ((255 * 2 ^ 120 : ℝ) : EReal) := by
  simp [Ideal.ofBits, Ideal.ieee]

/-- The reciprocal of 448 as a float32. -/
theorem ofBits_recip : Ideal.ofBits .f32 0x3B124925#32 = ((9586981 / 2 ^ 32 : ℝ) : EReal) := by
  simp [Ideal.ofBits, Ideal.ieee]
  norm_num [← EReal.coe_mul]

/-- A magnitude is at least 0. -/
theorem mag_nonneg (a : EReal) : 0 ≤ mag a := by
  unfold mag
  rcases le_total 0 a with h | h
  · exact le_max_of_le_left h
  · exact le_max_of_le_right (by simpa using EReal.neg_le_neg_iff.2 h)

/-- A row whose magnitudes are at most the largest finite `bf16`. -/
def Bounded (x : Row) : Prop := ∀ d, mag (x d) ≤ Ideal.ofBits .bf16 0x7F7F#16

/-- Its groups' values are numbers below 2 ^ 126. -/
theorem scaled_real {x : Row} (hx : Bounded x) (g : Fin 40) :
    ∃ t : ℝ, scaled x g = (t : EReal) ∧ t < (2 : ℝ) ^ (126 : ℤ) := by
  have h0 : (0 : EReal) ≤ groupMax x g :=
    (mag_nonneg (x (inGroup g 0))).trans (Finset.le_sup (f := fun k : Fin 32 => mag (x (inGroup g k))) (Finset.mem_univ 0))
  have h1 : groupMax x g ≤ ((255 * 2 ^ 120 : ℝ) : EReal) := by
    rw [← ofBits_most]
    exact Finset.sup_le fun k _ => hx _
  have hr : ((groupMax x g).toReal : EReal) = groupMax x g :=
    EReal.coe_toReal (fun h => by rw [h] at h1; exact absurd h1 (not_le.2 (EReal.coe_lt_top _)))
      (fun h => by rw [h] at h0; exact absurd h0 (not_le.2 EReal.bot_lt_zero))
  generalize (groupMax x g).toReal = r at hr
  refine ⟨r * (9586981 / 2 ^ 32), ?_, ?_⟩
  · unfold scaled
    rw [← hr, ofBits_recip, EReal.coe_mul]
  · rw [← hr, EReal.coe_le_coe_iff] at h1
    norm_num at h1 ⊢
    linarith

/-- The scale by the count of powers, -/
theorem scale_count {x : Row} (hx : Bounded x) (g : Fin 40) : scale x g = Ideal.exp2 (Exponent.expo (scaled x g)) := by
  obtain ⟨t, ht, hlt⟩ := scaled_real hx g
  unfold scale
  rw [ht, Exponent.scale_eq hlt]

/-- and its inverse. -/
theorem inv_count {x : Row} (hx : Bounded x) (g : Fin 40) : inv x g = Ideal.exp2 (0 - Exponent.expo (scaled x g)) := by
  obtain ⟨t, ht, hlt⟩ := scaled_real hx g
  unfold inv
  rw [ht, Exponent.inv_eq hlt]

end Cert.Row

end
-- ==== Proof.ReferenceArrays.lean ====
/- What the reference's three result arrays hold: the scales, codes and products of the activations' rows, wherever the
   activations are within `bf16`'s finite range and the weights' exponents within 1 to 254. -/
module

public import proofs.«01_k».proof.Proof.ReferenceWeights
public import proofs.«01_k».proof.Proof.Finite
public import proofs.«01_k».proof.Proof.Gen.ReferenceIdeal.Value
public import Idealize.ShloMosaic.Lib.Pipeline.ValueKit

@[expose] public section

noncomputable section

namespace Cert.ReferenceIdeal.Arrays

open Idealize Idealize.SL Idealize.ShloMosaic Cert.ReferenceIdeal Cert.ReferenceIdeal.Gen Cert.ReferenceIdeal.Quant
open Cert.ReferenceIdeal.Weights Idealize.ShloMosaic.TcCoe

/-- The offsets 0, 0 are 0 on every axis. -/
theorem zeros : (![0, 0] : Fin 2 → ℕ) = fun _ => 0 := by funext a; fin_cases a <;> rfl

section
variable (x : Vec Ideal S32768x1280 .bf16) (w : Vec Ideal S4544x1280 .i8) (s : Vec Ideal S9088x40 .i8)

/-- The reference's low half is the product with the low nibbles, -/
theorem low_eq (a : FVec Ideal S32768x1280 .bf16) :
    k0_pay17 a (k0_pay9 (F := Ideal) s) (k0_pay10 (F := Ideal) w) (k0_pay11 (F := Ideal) w) (k0_pay12 (F := Ideal) w)
      (k0_pay13 (F := Ideal) w) (k0_pay14 w) (k0_pay15 w) (Scalar.ofBits .bf16 0x4000#16) k0_pay16 = half a (low w s) := by
  unfold low k0_pay17 k0_pay14 k0_pay15 k0_pay16 k0_pay10 k0_pay11 k0_pay12 k0_pay13
  generalize k0_pay7 (F := Ideal) w = n
  generalize k0_pay9 (F := Ideal) s = e
  rfl

/-- and both halves are the whole product. -/
theorem both_eq (a : FVec Ideal S32768x1280 .bf16) (lo : FVec Ideal S4544x1280 .bf16) (n : IVec S4544x1280 32) (e : IVec S4544x40 8) :
    k0_pay23 a (half a lo) e (k0_pay19 n) (k0_pay20 n) (k0_pay21 n) (k0_pay22 n) 0#32
      = both a lo (scaled (decoded n) e) := by
  unfold k0_pay23 k0_pay19 k0_pay20 k0_pay21 k0_pay22
  rfl

/-- The scales' block. -/
theorem out_5 (hx : ∀ p, Row.Bounded (KernelIdeal.Quant.rowOf x p)) : out0_5 x w s = Result.scales x := by
  unfold out0_5
  rw [View.canon_unit_zero zeros, View.ld_unit_zero zeros]
  funext i
  obtain ⟨p, g, rfl⟩ : ∃ p g, i = ix2 p g := ⟨i 0, i 1, KernelIdeal.Quant.ix2_eta i⟩
  exact (scale_apply x p g).trans (Row.scale_count (hx p) g).symm

/-- The codes' block. -/
theorem out_4 (hx : ∀ p, Row.Bounded (KernelIdeal.Quant.rowOf x p)) : out0_4 x w s = Result.codes x := by
  unfold out0_4
  rw [View.canon_unit_zero zeros, View.ld_unit_zero zeros]
  funext i
  obtain ⟨p, d, rfl⟩ : ∃ p d, i = ix2 p d := ⟨i 0, i 1, KernelIdeal.Quant.ix2_eta i⟩
  refine (code_apply x p d).trans ?_
  rw [← Row.inv_count (hx p)]
  rfl

/-- The product's block. -/
theorem out_3 (hx : ∀ p, Row.Bounded (KernelIdeal.Quant.rowOf x p)) (hs : ∀ i, 1 ≤ (s i).toNat ∧ (s i).toNat ≤ 254) :
    out0_3 x w s = Result.product x w s := by
  have e : out0_3 x w s = both (k0_pay5 x) (low w s) (high w s) := by
    unfold_out out0_3
    rw [View.canon_unit_zero zeros, View.ld_unit_zero zeros, View.ld_unit_zero zeros, View.ld_unit_zero zeros, low_eq]
    exact both_eq _ _ _ _
  rw [e]
  funext i
  obtain ⟨p, n, rfl⟩ : ∃ p n, i = ix2 p n := ⟨i 0, i 1, KernelIdeal.Quant.ix2_eta i⟩
  refine (both_apply w s hs _ p n).trans (Finset.sum_congr rfl fun k _ => congrArg (· * _) ?_)
  refine weighted_apply x p k _ _ ?_ ?_
  · exact (code_apply x p k).trans (by rw [← Row.inv_count (hx p)]; rfl)
  · exact (scale_apply x p _).trans (Row.scale_count (hx p) _).symm

end

variable (m : (ℓ : Loc nD τ sig) → Buf (Elt Ideal) ℓ) (c : Dev nD)

/-- The activations as rows. -/
def xs : Vec Ideal S32768x1280 .bf16 :=
  shapeCast S32768x1280 (m ((c : Thread nD τ).loc main_arg0)) shapeCasts_S8x4096x1280_S32768x1280

/-- The first operand of the reference's call is the activations, one token a row. -/
theorem V_x : V m c main_v0 = xs m c := by sl_kernel_rfl

/-- The windows' blocks are the whole arrays. -/
theorem block_x (t : Fin cfg0.N) : iblk m c 0 t = xs m c := by
  refine Eq.trans (funext fun i => ?_) (V_x m c)
  show V m c main_v0 (((cfg0.win 0).blk t).view.emb i) = _
  refine congrArg _ (funext fun a => Fin.ext ?_)
  match a with
  | ⟨0, _⟩ => show 0 * 32768 + 1 * (i 0).val = (i 0).val; omega
  | ⟨1, _⟩ => show 0 * 1280 + 1 * (i 1).val = (i 1).val; omega

/-- The reference's block of the packed weights is all of them. -/
theorem block_w (t : Fin cfg0.N) : iblk m c 1 t = m ((c : Thread nD τ).loc main_arg1) := by
  refine Eq.trans (funext fun i => ?_) (V_main_arg1 m c)
  show V m c main_arg1 (((cfg0.win 1).blk t).view.emb i) = _
  refine congrArg _ (funext fun a => Fin.ext ?_)
  match a with
  | ⟨0, _⟩ => show 0 * 4544 + 1 * (i 0).val = (i 0).val; omega
  | ⟨1, _⟩ => show 0 * 1280 + 1 * (i 1).val = (i 1).val; omega

/-- The reference's block of the weight scales is all of them. -/
theorem block_s (t : Fin cfg0.N) : iblk m c 2 t = m ((c : Thread nD τ).loc main_arg2) := by
  refine Eq.trans (funext fun i => ?_) (V_main_arg2 m c)
  show V m c main_arg2 (((cfg0.win 2).blk t).view.emb i) = _
  refine congrArg _ (funext fun a => Fin.ext ?_)
  match a with
  | ⟨0, _⟩ => show 0 * 9088 + 1 * (i 0).val = (i 0).val; omega
  | ⟨1, _⟩ => show 0 * 40 + 1 * (i 1).val = (i 1).val; omega

variable (hx : ∀ p, Row.Bounded (KernelIdeal.Quant.rowOf (xs m c) p))
include hx

/-- The third result is the scales, -/
theorem final_5 : (dats m 0 c).arrAt 5 cfg0.N = Result.scales (xs m c) := by
  refine (dats m 0 c).arrAt_eq_of_after_last 5 t0_0 (by decide +kernel) _ fun j => ?_
  blk_simp
  rw [after0_5, block_x, block_w, block_s, out_5 _ _ _ hx]

/-- the second the codes, -/
theorem final_4 : (dats m 0 c).arrAt 4 cfg0.N = Result.codes (xs m c) := by
  refine (dats m 0 c).arrAt_eq_of_after_last 4 t0_0 (by decide +kernel) _ fun j => ?_
  blk_simp
  rw [after0_4, block_x, block_w, block_s, out_4 _ _ _ hx]

/-- and the first the product. -/
theorem final_3 (hs : ∀ i : S9088x40.Idx, 1 ≤ ((m ((c : Thread nD τ).loc main_arg2) : Vec Ideal S9088x40 .i8) i).toNat
      ∧ ((m ((c : Thread nD τ).loc main_arg2) : Vec Ideal S9088x40 .i8) i).toNat ≤ 254) :
    (dats m 0 c).arrAt 3 cfg0.N
      = Result.product (xs m c) (m ((c : Thread nD τ).loc main_arg1)) (m ((c : Thread nD τ).loc main_arg2)) := by
  refine (dats m 0 c).arrAt_eq_of_after_last 3 t0_0 (by decide +kernel) _ fun j => ?_
  blk_simp
  rw [after0_3, block_x, block_w, block_s, out_3 _ _ _ hx hs]

end Cert.ReferenceIdeal.Arrays

end
-- ==== Proof.Precondition.lean ====
/- What the precondition says at Ideal: no activation exceeds the largest finite `bf16`, and no exponent field of the weights
   is zero or all ones. -/
module

public import proofs.«01_k».proof.Pre_in_range
public import proofs.«01_k».proof.Proof.Finite
public import Idealize.ShloMosaic.Lib.ReduceAll

@[expose] public section

noncomputable section

namespace Cert.Pre_in_range

open Idealize.ShloMosaic

/-- The shapes' relations. -/
theorem facts : Facts where
  bcast_S_S8x4096x1280 := by decide
  reducesTo_S8x4096x1280_S_d0_1_2 := by decide
  h_S_ := by decide
  bcast_S_S9088x40 := by decide
  reducesTo_S9088x40_S_d0_1 := by decide

instance : Subsingleton S_.Idx := ⟨fun _ _ => funext fun a => a.elim0⟩

/-- A one-bit word that is 1 comes from `true`. -/
theorem ofBool_one : ∀ b, BitVec.ofBool b = 1#1 → b = true := by decide

variable [Facts]

/-- The precondition, element by element. -/
theorem spec (x : FVec Ideal S8x4096x1280 .bf16) (w : IVec S4544x1280 8) (s : IVec S9088x40 8)
    (h : fn (F := Ideal) x w s = fun _ => 1#1) :
    (∀ i, Row.mag (x i) ≤ Ideal.ofBits .bf16 0x7F7F#16) ∧ ∀ i, 1 ≤ (s i).toNat ∧ (s i).toNat ≤ 254 := by
  have h1 := congrFun h (fun a => a.elim0)
  unfold fn at h1
  obtain ⟨ha, hb⟩ := IntOp.andi_eq_one.1 h1
  refine ⟨fun i => ?_, fun i => ?_⟩
  · exact of_decide_eq_true (ofBool_one _ (Host.reduce_andi_all _ _ _ _ _ ha i))
  · obtain ⟨hl, hu⟩ := IntOp.andi_eq_one.1 (Host.reduce_andi_all _ _ _ _ _ hb i)
    exact ⟨of_decide_eq_true (ofBool_one _ hl), of_decide_eq_true (ofBool_one _ hu)⟩

end Cert.Pre_in_range

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Arrays
public import proofs.«01_k».proof.Proof.ReferenceArrays
public import proofs.«01_k».proof.Proof.Precondition
public import Idealize.ShloMosaic.Lib.Claim
public import Idealize.ShloMosaic.Adequacy
public import Idealize.ShloMosaic.Init

@[expose] public section

noncomputable section

open Idealize.ShloMosaic Idealize.ShloMosaic.TcCoe

namespace Cert.Proof

attribute [local instance] Cert.Kernel.Gen.facts Cert.KernelIdeal.Gen.facts Cert.ReferenceIdeal.Gen.facts Cert.Pre_in_range.facts

/-- The rows of bounded activations are bounded. -/
theorem rows_bounded (x : FVec Ideal Cert.KernelIdeal.S8x4096x1280 .bf16) (hx : ∀ i, Row.mag (x i) ≤ Ideal.ofBits .bf16 0x7F7F#16)
    (h : Cert.KernelIdeal.S8x4096x1280.ShapeCasts Cert.KernelIdeal.S32768x1280) (p : Fin 32768) :
    Row.Bounded (KernelIdeal.Quant.rowOf (shapeCast Cert.KernelIdeal.S32768x1280 x h) p) := fun _ => hx _

/-- Over the extended reals the kernel and the reference leave the same product, codes and scales. -/
theorem algebraic : Cert.algebraic_KernelIdeal_ReferenceIdeal_pre_in_range := by
  intro m g m' g' hpre heq
  have hp (c : Dev Cert.KernelIdeal.nD) := Cert.Pre_in_range.spec _ _ _ (hpre c)
  have hx (c : Dev Cert.KernelIdeal.nD) (p : Fin 32768) :
      Row.Bounded (KernelIdeal.Quant.rowOf (KernelIdeal.Arrays.xs m c) p) := rows_bounded _ (hp c).1 _ p
  have exs (c : Dev Cert.KernelIdeal.nD) : ReferenceIdeal.Arrays.xs m' c = KernelIdeal.Arrays.xs m c := by
    unfold ReferenceIdeal.Arrays.xs KernelIdeal.Arrays.xs
    rw [(heq c).1]
  refine ⟨fun c => Result.product (KernelIdeal.Arrays.xs m c) (KernelIdeal.Arrays.ws m c) (KernelIdeal.Arrays.es m c),
    fun c => Result.codes (KernelIdeal.Arrays.xs m c), fun c => Result.scales (KernelIdeal.Arrays.xs m c), ?_, ?_⟩
  · refine (θ_run _ _ _).mono (fun r h c => ?_) (Cert.KernelIdeal.Value.run m g)
    obtain ⟨h0, h1, h2, h3⟩ := h c
    exact ⟨h0.trans (KernelIdeal.Arrays.G3_eq m c), h1.trans (KernelIdeal.Arrays.G4_eq m c),
      h2.trans (KernelIdeal.Arrays.G5_eq m c), h3⟩
  · refine (θ_run _ _ _).mono (fun r h c => ?_) (Cert.ReferenceIdeal.Value.run_blocks m' g')
    obtain ⟨h0, h1, h2, h3⟩ := h c
    have hxr : ∀ p, Row.Bounded (KernelIdeal.Quant.rowOf (ReferenceIdeal.Arrays.xs m' c) p) := by
      rw [exs c]
      exact hx c
    refine ⟨h0.trans ?_, h1.trans ?_, h2.trans ?_, h3⟩
    · refine (ReferenceIdeal.Arrays.final_3 m' c hxr ?_).trans ?_
      · rw [(heq c).2.2]
        exact (hp c).2
      · rw [exs c, (heq c).2.1, (heq c).2.2]
        rfl
    · exact (ReferenceIdeal.Arrays.final_4 m' c hxr).trans (by rw [exs c])
    · exact (ReferenceIdeal.Arrays.final_5 m' c hxr).trans (by rw [exs c])

/-- The certificate's claim: every program terminates without a fault and leaves its arguments alone, the reading over the
    extended reals is the kernel's own text, and over them kernel and reference leave the same three results. -/
theorem claim : Cert.Claim :=
  ⟨Cert.Kernel.Gen.facts, Cert.KernelIdeal.Gen.facts, Cert.ReferenceIdeal.Gen.facts, Cert.Pre_in_range.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
